-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![4096, 512]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S4096x512 : Shape := ⟨2, ![4096, 512]⟩
abbrev S12 : Shape := ⟨1, ![12]⟩
abbrev S24 : Shape := ⟨1, ![24]⟩
abbrev S_ : Shape := ⟨0, ![]⟩
abbrev S1 : Shape := ⟨1, ![1]⟩
abbrev S128x512 : Shape := ⟨2, ![128, 512]⟩

abbrev nBuf : Space → Nat
  | .hbm => 2
  | .vmem => 2
  | .smem => 0
  | _ => 0

abbrev bufTy : (tb : Table) → Fin (tcTables nBuf tb) → BufTy
  | .hbm, ⟨0, _⟩ => ⟨S1024x512, .f32⟩
  | .hbm, ⟨1, _⟩ => ⟨S4096x512, .f32⟩
  | .local _ .vmem, ⟨0, _⟩ => ⟨S1024x512, .f32⟩
  | .local _ .vmem, ⟨1, _⟩ => ⟨S4096x512, .f32⟩
  | _, _ => ⟨S1024x512, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  (ofTc nBuf bufTy 1 98 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v16 : BitVec 1 := Scalar.cmpi .sgt v5 c0_i32
  let v17 : BitVec 32 := Scalar.extui v16
  let c0_i32_7 : BitVec 32 := 0#32
  let v18 : BitVec 1 := Scalar.cmpi .ne v17 c0_i32_7
  v18

def k0_dev1 (d0 : Dev nD) : Nat :=
  let c0_i32_334 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_333 : BitVec 32 := 16#32
  let v520 : BitVec 32 := Scalar.muli v2 c16_i32_333
  let v521 : BitVec 32 := Scalar.addi c0_i32_334 v520
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_335 : BitVec 32 := 4#32
  let v522 : BitVec 32 := Scalar.muli v13 c4_i32_335
  let v523 : BitVec 32 := Scalar.addi v521 v522
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_336 : BitVec 32 := 1#32
  let v524 : BitVec 32 := Scalar.muli v8 c1_i32_336
  let v525 : BitVec 32 := Scalar.addi v523 v524
  v525.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v19 : BitVec 1 := Scalar.cmpi .slt v5 c3_i32
  let v20 : BitVec 32 := Scalar.extui v19
  let c0_i32_8 : BitVec 32 := 0#32
  let v21 : BitVec 1 := Scalar.cmpi .ne v20 c0_i32_8
  v21

def k0_dev2 (d0 : Dev nD) : Nat :=
  let c0_i32_334 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_333 : BitVec 32 := 16#32
  let v520 : BitVec 32 := Scalar.muli v2 c16_i32_333
  let v521 : BitVec 32 := Scalar.addi c0_i32_334 v520
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_335 : BitVec 32 := 4#32
  let v522 : BitVec 32 := Scalar.muli v12 c4_i32_335
  let v523 : BitVec 32 := Scalar.addi v521 v522
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_336 : BitVec 32 := 1#32
  let v524 : BitVec 32 := Scalar.muli v8 c1_i32_336
  let v525 : BitVec 32 := Scalar.addi v523 v524
  v525.toNat
def k0_dev3 (d0 : Dev nD) : Nat :=
  let c0_i32_11 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_6 v2
  let c16_i32_10 : BitVec 32 := 16#32
  let v22 : BitVec 32 := Scalar.muli v14 c16_i32_10
  let v23 : BitVec 32 := Scalar.addi c0_i32_11 v22
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_12 : BitVec 32 := 4#32
  let v24 : BitVec 32 := Scalar.muli v5 c4_i32_12
  let v25 : BitVec 32 := Scalar.addi v23 v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v26 : BitVec 32 := Scalar.muli v8 c1_i32_13
  let v27 : BitVec 32 := Scalar.addi v25 v26
  v27.toNat
def k0_amt1 (d0 : Dev nD) : BitVec 32 :=
  let c1_i32_15 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_14 : BitVec 32 := 0#32
  let v28 : BitVec 1 := Scalar.cmpi .sgt v5 c0_i32_14
  let v29 : BitVec 32 := Scalar.extui v28
  let v30 : BitVec 32 := Scalar.addi c1_i32_15 v29
  let c3_i32_16 : BitVec 32 := 3#32
  let v31 : BitVec 1 := Scalar.cmpi .slt v5 c3_i32_16
  let v32 : BitVec 32 := Scalar.extui v31
  let v33 : BitVec 32 := Scalar.addi v30 v32
  v33

def k0_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_17 : BitVec 32 := 2#32
  let v34 : BitVec 1 := Scalar.cmpi .sle v5 c2_i32_17
  let c0_i32_18 : BitVec 32 := 0#32
  let v35 : BitVec 1 := Scalar.cmpi .sge v5 c0_i32_18
  let v36 : BitVec 1 := Scalar.andi v34 v35
  let v37 : BitVec 32 := Scalar.extui v36
  let c0_i32_19 : BitVec 32 := 0#32
  let v38 : BitVec 1 := Scalar.cmpi .ne v37 c0_i32_19
  v38

def k0_off1 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_332 : BitVec 32 := 0#32
  let v520 : BitVec 32 := Scalar.subi v5 c0_i32_332
  let c1024_i32_334 : BitVec 32 := 1024#32
  let v522 : BitVec 32 := Scalar.muli v520 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c0_i32_335 : BitVec 32 := 0#32
  let v524 : BitVec 32 := Scalar.addi v523 c0_i32_335
  let c0_i32_342 : BitVec 32 := 0#32
  ![v524.toNat, 0]
def k0_off2 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let c0_i32_333 : BitVec 32 := 0#32
  let v521 : BitVec 32 := Scalar.addi v9 c0_i32_333
  let c0_i32_343 : BitVec 32 := 0#32
  ![v521.toNat, 0]
def k0_dev4 (d0 : Dev nD) : Nat :=
  let c0_i32_339 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_338 : BitVec 32 := 16#32
  let v525 : BitVec 32 := Scalar.muli v2 c16_i32_338
  let v526 : BitVec 32 := Scalar.addi c0_i32_339 v525
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_340 : BitVec 32 := 4#32
  let v527 : BitVec 32 := Scalar.muli v12 c4_i32_340
  let v528 : BitVec 32 := Scalar.addi v526 v527
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_341 : BitVec 32 := 1#32
  let v529 : BitVec 32 := Scalar.muli v8 c1_i32_341
  let v530 : BitVec 32 := Scalar.addi v528 v529
  v530.toNat
def k0_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_20 : BitVec 32 := 1#32
  let v39 : BitVec 1 := Scalar.cmpi .sge v5 c1_i32_20
  let c0_i32_21 : BitVec 32 := 0#32
  let v40 : BitVec 32 := Scalar.addi v5 c0_i32_21
  let c3_i32_22 : BitVec 32 := 3#32
  let v41 : BitVec 1 := Scalar.cmpi .sle v40 c3_i32_22
  let v42 : BitVec 1 := Scalar.andi v39 v41
  let v43 : BitVec 32 := Scalar.extui v42
  let c0_i32_23 : BitVec 32 := 0#32
  let v44 : BitVec 1 := Scalar.cmpi .ne v43 c0_i32_23
  v44

def k0_off3 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_332 : BitVec 32 := 0#32
  let v520 : BitVec 32 := Scalar.addi v5 c0_i32_332
  let c1024_i32_334 : BitVec 32 := 1024#32
  let v522 : BitVec 32 := Scalar.muli v520 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c0_i32_335 : BitVec 32 := 0#32
  let v524 : BitVec 32 := Scalar.addi v523 c0_i32_335
  let c0_i32_342 : BitVec 32 := 0#32
  ![v524.toNat, 0]
def k0_off4 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let c0_i32_333 : BitVec 32 := 0#32
  let v521 : BitVec 32 := Scalar.addi v9 c0_i32_333
  let c0_i32_343 : BitVec 32 := 0#32
  ![v521.toNat, 0]
def k0_dev5 (d0 : Dev nD) : Nat :=
  let c0_i32_339 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_338 : BitVec 32 := 16#32
  let v525 : BitVec 32 := Scalar.muli v2 c16_i32_338
  let v526 : BitVec 32 := Scalar.addi c0_i32_339 v525
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_340 : BitVec 32 := 4#32
  let v527 : BitVec 32 := Scalar.muli v13 c4_i32_340
  let v528 : BitVec 32 := Scalar.addi v526 v527
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_341 : BitVec 32 := 1#32
  let v529 : BitVec 32 := Scalar.muli v8 c1_i32_341
  let v530 : BitVec 32 := Scalar.addi v528 v529
  v530.toNat
def k0_cond5 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_24 : BitVec 32 := 2#32
  let v45 : BitVec 1 := Scalar.cmpi .sle v5 c2_i32_24
  let c0_i32_25 : BitVec 32 := 0#32
  let v46 : BitVec 1 := Scalar.cmpi .sge v5 c0_i32_25
  let v47 : BitVec 1 := Scalar.andi v45 v46
  let v48 : BitVec 32 := Scalar.extui v47
  let c0_i32_26 : BitVec 32 := 0#32
  let v49 : BitVec 1 := Scalar.cmpi .ne v48 c0_i32_26
  v49

def k0_off5 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_332 : BitVec 32 := 0#32
  let v520 : BitVec 32 := Scalar.subi v5 c0_i32_332
  let c1024_i32_333 : BitVec 32 := 1024#32
  let v522 : BitVec 32 := Scalar.muli v520 c1024_i32_333
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c128_i32_334 : BitVec 32 := 128#32
  let v524 : BitVec 32 := Scalar.addi v523 c128_i32_334
  let c0_i32_341 : BitVec 32 := 0#32
  ![v524.toNat, 0]
def k0_off6 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let c128_i32 : BitVec 32 := 128#32
  let v521 : BitVec 32 := Scalar.addi v9 c128_i32
  let c0_i32_342 : BitVec 32 := 0#32
  ![v521.toNat, 0]
def k0_dev6 (d0 : Dev nD) : Nat :=
  let c0_i32_338 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_337 : BitVec 32 := 16#32
  let v525 : BitVec 32 := Scalar.muli v2 c16_i32_337
  let v526 : BitVec 32 := Scalar.addi c0_i32_338 v525
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_339 : BitVec 32 := 4#32
  let v527 : BitVec 32 := Scalar.muli v12 c4_i32_339
  let v528 : BitVec 32 := Scalar.addi v526 v527
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v529 : BitVec 32 := Scalar.muli v8 c1_i32_340
  let v530 : BitVec 32 := Scalar.addi v528 v529
  v530.toNat
def k0_cond6 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_27 : BitVec 32 := 1#32
  let v50 : BitVec 1 := Scalar.cmpi .sge v5 c1_i32_27
  let c0_i32_28 : BitVec 32 := 0#32
  let v51 : BitVec 32 := Scalar.addi v5 c0_i32_28
  let c3_i32_29 : BitVec 32 := 3#32
  let v52 : BitVec 1 := Scalar.cmpi .sle v51 c3_i32_29
  let v53 : BitVec 1 := Scalar.andi v50 v52
  let v54 : BitVec 32 := Scalar.extui v53
  let c0_i32_30 : BitVec 32 := 0#32
  let v55 : BitVec 1 := Scalar.cmpi .ne v54 c0_i32_30
  v55

def k0_off7 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_332 : BitVec 32 := 0#32
  let v520 : BitVec 32 := Scalar.addi v5 c0_i32_332
  let c1024_i32_333 : BitVec 32 := 1024#32
  let v522 : BitVec 32 := Scalar.muli v520 c1024_i32_333
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c128_i32_334 : BitVec 32 := 128#32
  let v524 : BitVec 32 := Scalar.addi v523 c128_i32_334
  let c0_i32_341 : BitVec 32 := 0#32
  ![v524.toNat, 0]
def k0_off8 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let c128_i32 : BitVec 32 := 128#32
  let v521 : BitVec 32 := Scalar.addi v9 c128_i32
  let c0_i32_342 : BitVec 32 := 0#32
  ![v521.toNat, 0]
def k0_dev7 (d0 : Dev nD) : Nat :=
  let c0_i32_338 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_337 : BitVec 32 := 16#32
  let v525 : BitVec 32 := Scalar.muli v2 c16_i32_337
  let v526 : BitVec 32 := Scalar.addi c0_i32_338 v525
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_339 : BitVec 32 := 4#32
  let v527 : BitVec 32 := Scalar.muli v13 c4_i32_339
  let v528 : BitVec 32 := Scalar.addi v526 v527
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v529 : BitVec 32 := Scalar.muli v8 c1_i32_340
  let v530 : BitVec 32 := Scalar.addi v528 v529
  v530.toNat
def k0_cond7 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_31 : BitVec 32 := 2#32
  let v56 : BitVec 1 := Scalar.cmpi .sle v5 c2_i32_31
  let c0_i32_32 : BitVec 32 := 0#32
  let v57 : BitVec 1 := Scalar.cmpi .sge v5 c0_i32_32
  let v58 : BitVec 1 := Scalar.andi v56 v57
  let v59 : BitVec 32 := Scalar.extui v58
  let c0_i32_33 : BitVec 32 := 0#32
  let v60 : BitVec 1 := Scalar.cmpi .ne v59 c0_i32_33
  v60

def k0_off9 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_332 : BitVec 32 := 0#32
  let v520 : BitVec 32 := Scalar.subi v5 c0_i32_332
  let c1024_i32_333 : BitVec 32 := 1024#32
  let v522 : BitVec 32 := Scalar.muli v520 c1024_i32_333
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c256_i32_334 : BitVec 32 := 256#32
  let v524 : BitVec 32 := Scalar.addi v523 c256_i32_334
  let c0_i32_341 : BitVec 32 := 0#32
  ![v524.toNat, 0]
def k0_off10 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let c256_i32 : BitVec 32 := 256#32
  let v521 : BitVec 32 := Scalar.addi v9 c256_i32
  let c0_i32_342 : BitVec 32 := 0#32
  ![v521.toNat, 0]
def k0_dev8 (d0 : Dev nD) : Nat :=
  let c0_i32_338 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_337 : BitVec 32 := 16#32
  let v525 : BitVec 32 := Scalar.muli v2 c16_i32_337
  let v526 : BitVec 32 := Scalar.addi c0_i32_338 v525
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_339 : BitVec 32 := 4#32
  let v527 : BitVec 32 := Scalar.muli v12 c4_i32_339
  let v528 : BitVec 32 := Scalar.addi v526 v527
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v529 : BitVec 32 := Scalar.muli v8 c1_i32_340
  let v530 : BitVec 32 := Scalar.addi v528 v529
  v530.toNat
def k0_cond8 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_34 : BitVec 32 := 1#32
  let v61 : BitVec 1 := Scalar.cmpi .sge v5 c1_i32_34
  let c0_i32_35 : BitVec 32 := 0#32
  let v62 : BitVec 32 := Scalar.addi v5 c0_i32_35
  let c3_i32_36 : BitVec 32 := 3#32
  let v63 : BitVec 1 := Scalar.cmpi .sle v62 c3_i32_36
  let v64 : BitVec 1 := Scalar.andi v61 v63
  let v65 : BitVec 32 := Scalar.extui v64
  let c0_i32_37 : BitVec 32 := 0#32
  let v66 : BitVec 1 := Scalar.cmpi .ne v65 c0_i32_37
  v66

def k0_off11 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_332 : BitVec 32 := 0#32
  let v520 : BitVec 32 := Scalar.addi v5 c0_i32_332
  let c1024_i32_333 : BitVec 32 := 1024#32
  let v522 : BitVec 32 := Scalar.muli v520 c1024_i32_333
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c256_i32_334 : BitVec 32 := 256#32
  let v524 : BitVec 32 := Scalar.addi v523 c256_i32_334
  let c0_i32_341 : BitVec 32 := 0#32
  ![v524.toNat, 0]
def k0_off12 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let c256_i32 : BitVec 32 := 256#32
  let v521 : BitVec 32 := Scalar.addi v9 c256_i32
  let c0_i32_342 : BitVec 32 := 0#32
  ![v521.toNat, 0]
def k0_dev9 (d0 : Dev nD) : Nat :=
  let c0_i32_338 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_337 : BitVec 32 := 16#32
  let v525 : BitVec 32 := Scalar.muli v2 c16_i32_337
  let v526 : BitVec 32 := Scalar.addi c0_i32_338 v525
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_339 : BitVec 32 := 4#32
  let v527 : BitVec 32 := Scalar.muli v13 c4_i32_339
  let v528 : BitVec 32 := Scalar.addi v526 v527
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v529 : BitVec 32 := Scalar.muli v8 c1_i32_340
  let v530 : BitVec 32 := Scalar.addi v528 v529
  v530.toNat
def k0_cond9 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_38 : BitVec 32 := 2#32
  let v67 : BitVec 1 := Scalar.cmpi .sle v5 c2_i32_38
  let c0_i32_39 : BitVec 32 := 0#32
  let v68 : BitVec 1 := Scalar.cmpi .sge v5 c0_i32_39
  let v69 : BitVec 1 := Scalar.andi v67 v68
  let v70 : BitVec 32 := Scalar.extui v69
  let c0_i32_40 : BitVec 32 := 0#32
  let v71 : BitVec 1 := Scalar.cmpi .ne v70 c0_i32_40
  v71

def k0_off13 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_332 : BitVec 32 := 0#32
  let v520 : BitVec 32 := Scalar.subi v5 c0_i32_332
  let c1024_i32_333 : BitVec 32 := 1024#32
  let v522 : BitVec 32 := Scalar.muli v520 c1024_i32_333
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c384_i32_334 : BitVec 32 := 384#32
  let v524 : BitVec 32 := Scalar.addi v523 c384_i32_334
  let c0_i32_341 : BitVec 32 := 0#32
  ![v524.toNat, 0]
def k0_off14 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let c384_i32 : BitVec 32 := 384#32
  let v521 : BitVec 32 := Scalar.addi v9 c384_i32
  let c0_i32_342 : BitVec 32 := 0#32
  ![v521.toNat, 0]
def k0_dev10 (d0 : Dev nD) : Nat :=
  let c0_i32_338 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_337 : BitVec 32 := 16#32
  let v525 : BitVec 32 := Scalar.muli v2 c16_i32_337
  let v526 : BitVec 32 := Scalar.addi c0_i32_338 v525
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_339 : BitVec 32 := 4#32
  let v527 : BitVec 32 := Scalar.muli v12 c4_i32_339
  let v528 : BitVec 32 := Scalar.addi v526 v527
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v529 : BitVec 32 := Scalar.muli v8 c1_i32_340
  let v530 : BitVec 32 := Scalar.addi v528 v529
  v530.toNat
def k0_cond10 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_41 : BitVec 32 := 1#32
  let v72 : BitVec 1 := Scalar.cmpi .sge v5 c1_i32_41
  let c0_i32_42 : BitVec 32 := 0#32
  let v73 : BitVec 32 := Scalar.addi v5 c0_i32_42
  let c3_i32_43 : BitVec 32 := 3#32
  let v74 : BitVec 1 := Scalar.cmpi .sle v73 c3_i32_43
  let v75 : BitVec 1 := Scalar.andi v72 v74
  let v76 : BitVec 32 := Scalar.extui v75
  let c0_i32_44 : BitVec 32 := 0#32
  let v77 : BitVec 1 := Scalar.cmpi .ne v76 c0_i32_44
  v77

def k0_off15 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_332 : BitVec 32 := 0#32
  let v520 : BitVec 32 := Scalar.addi v5 c0_i32_332
  let c1024_i32_333 : BitVec 32 := 1024#32
  let v522 : BitVec 32 := Scalar.muli v520 c1024_i32_333
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c384_i32_334 : BitVec 32 := 384#32
  let v524 : BitVec 32 := Scalar.addi v523 c384_i32_334
  let c0_i32_341 : BitVec 32 := 0#32
  ![v524.toNat, 0]
def k0_off16 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let c384_i32 : BitVec 32 := 384#32
  let v521 : BitVec 32 := Scalar.addi v9 c384_i32
  let c0_i32_342 : BitVec 32 := 0#32
  ![v521.toNat, 0]
def k0_dev11 (d0 : Dev nD) : Nat :=
  let c0_i32_338 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_337 : BitVec 32 := 16#32
  let v525 : BitVec 32 := Scalar.muli v2 c16_i32_337
  let v526 : BitVec 32 := Scalar.addi c0_i32_338 v525
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_339 : BitVec 32 := 4#32
  let v527 : BitVec 32 := Scalar.muli v13 c4_i32_339
  let v528 : BitVec 32 := Scalar.addi v526 v527
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v529 : BitVec 32 := Scalar.muli v8 c1_i32_340
  let v530 : BitVec 32 := Scalar.addi v528 v529
  v530.toNat
def k0_off17 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32 : BitVec 32 := 1024#32
  let v80 : BitVec 32 := Scalar.muli v5 c1024_i32
  let v81 : Index := Scalar.indexCast v80
  let c0_46 : Index := 0#32
  ![v81.toNat, 0]
def k0_cond11 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_47 : BitVec 32 := 1#32
  let v83 : BitVec 1 := Scalar.cmpi .sge v5 c1_i32_47
  let v84 : BitVec 32 := Scalar.extui v83
  let c0_i32_48 : BitVec 32 := 0#32
  let v85 : BitVec 1 := Scalar.cmpi .ne v84 c0_i32_48
  v85

def k0_off18 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.subi v5 c1_i32_332
  let c0_i32_333 : BitVec 32 := 0#32
  let v521 : BitVec 32 := Scalar.subi v520 c0_i32_333
  let c1024_i32_334 : BitVec 32 := 1024#32
  let v522 : BitVec 32 := Scalar.muli v521 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c0_i32_335 : BitVec 32 := 0#32
  let v524 : BitVec 32 := Scalar.addi v523 c0_i32_335
  let c0_i32_342 : BitVec 32 := 0#32
  ![v524.toNat, 0]
def k0_dev12 (d0 : Dev nD) : Nat :=
  let c0_i32_347 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_6 v2
  let c16_i32_346 : BitVec 32 := 16#32
  let v535 : BitVec 32 := Scalar.muli v14 c16_i32_346
  let v536 : BitVec 32 := Scalar.addi c0_i32_347 v535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_348 : BitVec 32 := 4#32
  let v537 : BitVec 32 := Scalar.muli v5 c4_i32_348
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_349 : BitVec 32 := 1#32
  let v539 : BitVec 32 := Scalar.muli v8 c1_i32_349
  let v540 : BitVec 32 := Scalar.addi v538 v539
  v540.toNat
def k0_cond12 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_49 : BitVec 32 := 2#32
  let v86 : BitVec 1 := Scalar.cmpi .sle v5 c2_i32_49
  let v87 : BitVec 32 := Scalar.extui v86
  let c0_i32_50 : BitVec 32 := 0#32
  let v88 : BitVec 1 := Scalar.cmpi .ne v87 c0_i32_50
  v88

def k0_off19 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.addi v5 c1_i32_332
  let c0_i32_333 : BitVec 32 := 0#32
  let v521 : BitVec 32 := Scalar.addi v520 c0_i32_333
  let c1024_i32_334 : BitVec 32 := 1024#32
  let v522 : BitVec 32 := Scalar.muli v521 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c0_i32_335 : BitVec 32 := 0#32
  let v524 : BitVec 32 := Scalar.addi v523 c0_i32_335
  let c0_i32_342 : BitVec 32 := 0#32
  ![v524.toNat, 0]
def k0_dev13 (d0 : Dev nD) : Nat :=
  let c0_i32_347 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_6 v2
  let c16_i32_346 : BitVec 32 := 16#32
  let v535 : BitVec 32 := Scalar.muli v14 c16_i32_346
  let v536 : BitVec 32 := Scalar.addi c0_i32_347 v535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_348 : BitVec 32 := 4#32
  let v537 : BitVec 32 := Scalar.muli v5 c4_i32_348
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_349 : BitVec 32 := 1#32
  let v539 : BitVec 32 := Scalar.muli v8 c1_i32_349
  let v540 : BitVec 32 := Scalar.addi v538 v539
  v540.toNat
def k0_cond13 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_51 : BitVec 32 := 1#32
  let v89 : BitVec 1 := Scalar.cmpi .sge v5 c1_i32_51
  let v90 : BitVec 32 := Scalar.extui v89
  let c0_i32_52 : BitVec 32 := 0#32
  let v91 : BitVec 1 := Scalar.cmpi .ne v90 c0_i32_52
  v91

def k0_off20 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.subi v5 c1_i32_332
  let c0_i32_333 : BitVec 32 := 0#32
  let v521 : BitVec 32 := Scalar.subi v520 c0_i32_333
  let c1024_i32_334 : BitVec 32 := 1024#32
  let v522 : BitVec 32 := Scalar.muli v521 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c128_i32 : BitVec 32 := 128#32
  let v524 : BitVec 32 := Scalar.addi v523 c128_i32
  let c0_i32_341 : BitVec 32 := 0#32
  ![v524.toNat, 0]
def k0_dev14 (d0 : Dev nD) : Nat :=
  let c0_i32_346 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_6 v2
  let c16_i32_345 : BitVec 32 := 16#32
  let v535 : BitVec 32 := Scalar.muli v14 c16_i32_345
  let v536 : BitVec 32 := Scalar.addi c0_i32_346 v535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_347 : BitVec 32 := 4#32
  let v537 : BitVec 32 := Scalar.muli v5 c4_i32_347
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_348 : BitVec 32 := 1#32
  let v539 : BitVec 32 := Scalar.muli v8 c1_i32_348
  let v540 : BitVec 32 := Scalar.addi v538 v539
  v540.toNat
def k0_cond14 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_53 : BitVec 32 := 2#32
  let v92 : BitVec 1 := Scalar.cmpi .sle v5 c2_i32_53
  let v93 : BitVec 32 := Scalar.extui v92
  let c0_i32_54 : BitVec 32 := 0#32
  let v94 : BitVec 1 := Scalar.cmpi .ne v93 c0_i32_54
  v94

def k0_off21 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.addi v5 c1_i32_332
  let c0_i32_333 : BitVec 32 := 0#32
  let v521 : BitVec 32 := Scalar.addi v520 c0_i32_333
  let c1024_i32_334 : BitVec 32 := 1024#32
  let v522 : BitVec 32 := Scalar.muli v521 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c128_i32 : BitVec 32 := 128#32
  let v524 : BitVec 32 := Scalar.addi v523 c128_i32
  let c0_i32_341 : BitVec 32 := 0#32
  ![v524.toNat, 0]
def k0_dev15 (d0 : Dev nD) : Nat :=
  let c0_i32_346 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_6 v2
  let c16_i32_345 : BitVec 32 := 16#32
  let v535 : BitVec 32 := Scalar.muli v14 c16_i32_345
  let v536 : BitVec 32 := Scalar.addi c0_i32_346 v535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_347 : BitVec 32 := 4#32
  let v537 : BitVec 32 := Scalar.muli v5 c4_i32_347
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_348 : BitVec 32 := 1#32
  let v539 : BitVec 32 := Scalar.muli v8 c1_i32_348
  let v540 : BitVec 32 := Scalar.addi v538 v539
  v540.toNat
def k0_cond15 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_55 : BitVec 32 := 1#32
  let v95 : BitVec 1 := Scalar.cmpi .sge v5 c1_i32_55
  let v96 : BitVec 32 := Scalar.extui v95
  let c0_i32_56 : BitVec 32 := 0#32
  let v97 : BitVec 1 := Scalar.cmpi .ne v96 c0_i32_56
  v97

def k0_off22 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.subi v5 c1_i32_332
  let c0_i32_333 : BitVec 32 := 0#32
  let v521 : BitVec 32 := Scalar.subi v520 c0_i32_333
  let c1024_i32_334 : BitVec 32 := 1024#32
  let v522 : BitVec 32 := Scalar.muli v521 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c256_i32 : BitVec 32 := 256#32
  let v524 : BitVec 32 := Scalar.addi v523 c256_i32
  let c0_i32_341 : BitVec 32 := 0#32
  ![v524.toNat, 0]
def k0_dev16 (d0 : Dev nD) : Nat :=
  let c0_i32_346 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_6 v2
  let c16_i32_345 : BitVec 32 := 16#32
  let v535 : BitVec 32 := Scalar.muli v14 c16_i32_345
  let v536 : BitVec 32 := Scalar.addi c0_i32_346 v535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_347 : BitVec 32 := 4#32
  let v537 : BitVec 32 := Scalar.muli v5 c4_i32_347
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_348 : BitVec 32 := 1#32
  let v539 : BitVec 32 := Scalar.muli v8 c1_i32_348
  let v540 : BitVec 32 := Scalar.addi v538 v539
  v540.toNat
def k0_cond16 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_57 : BitVec 32 := 2#32
  let v98 : BitVec 1 := Scalar.cmpi .sle v5 c2_i32_57
  let v99 : BitVec 32 := Scalar.extui v98
  let c0_i32_58 : BitVec 32 := 0#32
  let v100 : BitVec 1 := Scalar.cmpi .ne v99 c0_i32_58
  v100

def k0_off23 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.addi v5 c1_i32_332
  let c0_i32_333 : BitVec 32 := 0#32
  let v521 : BitVec 32 := Scalar.addi v520 c0_i32_333
  let c1024_i32_334 : BitVec 32 := 1024#32
  let v522 : BitVec 32 := Scalar.muli v521 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c256_i32 : BitVec 32 := 256#32
  let v524 : BitVec 32 := Scalar.addi v523 c256_i32
  let c0_i32_341 : BitVec 32 := 0#32
  ![v524.toNat, 0]
def k0_dev17 (d0 : Dev nD) : Nat :=
  let c0_i32_345 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_6 v2
  let c16_i32_344 : BitVec 32 := 16#32
  let v535 : BitVec 32 := Scalar.muli v14 c16_i32_344
  let v536 : BitVec 32 := Scalar.addi c0_i32_345 v535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_346 : BitVec 32 := 4#32
  let v537 : BitVec 32 := Scalar.muli v5 c4_i32_346
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v539 : BitVec 32 := Scalar.muli v8 c1_i32_347
  let v540 : BitVec 32 := Scalar.addi v538 v539
  v540.toNat
def k0_cond17 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_59 : BitVec 32 := 1#32
  let v101 : BitVec 1 := Scalar.cmpi .sge v5 c1_i32_59
  let v102 : BitVec 32 := Scalar.extui v101
  let c0_i32_60 : BitVec 32 := 0#32
  let v103 : BitVec 1 := Scalar.cmpi .ne v102 c0_i32_60
  v103

def k0_off24 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.subi v5 c1_i32_332
  let c0_i32_333 : BitVec 32 := 0#32
  let v521 : BitVec 32 := Scalar.subi v520 c0_i32_333
  let c1024_i32_334 : BitVec 32 := 1024#32
  let v522 : BitVec 32 := Scalar.muli v521 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c384_i32 : BitVec 32 := 384#32
  let v524 : BitVec 32 := Scalar.addi v523 c384_i32
  let c0_i32_341 : BitVec 32 := 0#32
  ![v524.toNat, 0]
def k0_dev18 (d0 : Dev nD) : Nat :=
  let c0_i32_345 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_6 v2
  let c16_i32_344 : BitVec 32 := 16#32
  let v535 : BitVec 32 := Scalar.muli v14 c16_i32_344
  let v536 : BitVec 32 := Scalar.addi c0_i32_345 v535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_346 : BitVec 32 := 4#32
  let v537 : BitVec 32 := Scalar.muli v5 c4_i32_346
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v539 : BitVec 32 := Scalar.muli v8 c1_i32_347
  let v540 : BitVec 32 := Scalar.addi v538 v539
  v540.toNat
def k0_cond18 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_61 : BitVec 32 := 2#32
  let v104 : BitVec 1 := Scalar.cmpi .sle v5 c2_i32_61
  let v105 : BitVec 32 := Scalar.extui v104
  let c0_i32_62 : BitVec 32 := 0#32
  let v106 : BitVec 1 := Scalar.cmpi .ne v105 c0_i32_62
  v106

def k0_off25 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.addi v5 c1_i32_332
  let c0_i32_333 : BitVec 32 := 0#32
  let v521 : BitVec 32 := Scalar.addi v520 c0_i32_333
  let c1024_i32_334 : BitVec 32 := 1024#32
  let v522 : BitVec 32 := Scalar.muli v521 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c384_i32 : BitVec 32 := 384#32
  let v524 : BitVec 32 := Scalar.addi v523 c384_i32
  let c0_i32_341 : BitVec 32 := 0#32
  ![v524.toNat, 0]
def k0_dev19 (d0 : Dev nD) : Nat :=
  let c0_i32_345 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_6 v2
  let c16_i32_344 : BitVec 32 := 16#32
  let v535 : BitVec 32 := Scalar.muli v14 c16_i32_344
  let v536 : BitVec 32 := Scalar.addi c0_i32_345 v535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_346 : BitVec 32 := 4#32
  let v537 : BitVec 32 := Scalar.muli v5 c4_i32_346
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v539 : BitVec 32 := Scalar.muli v8 c1_i32_347
  let v540 : BitVec 32 := Scalar.addi v538 v539
  v540.toNat
def k0_cond19 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_63 : BitVec 32 := 2#32
  let v107 : BitVec 1 := Scalar.cmpi .sle v5 c2_i32_63
  let c1_i32_64 : BitVec 32 := 1#32
  let v108 : BitVec 1 := Scalar.cmpi .sge v5 c1_i32_64
  let v109 : BitVec 1 := Scalar.andi v107 v108
  let v110 : BitVec 32 := Scalar.extui v109
  let c0_i32_65 : BitVec 32 := 0#32
  let v111 : BitVec 1 := Scalar.cmpi .ne v110 c0_i32_65
  v111

def k0_off26 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.subi v5 c1_i32_332
  let c1024_i32_335 : BitVec 32 := 1024#32
  let v524 : BitVec 32 := Scalar.muli v520 c1024_i32_335
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v525 : BitVec 32 := Scalar.addi v524 v9
  let c0_i32_336 : BitVec 32 := 0#32
  let v526 : BitVec 32 := Scalar.addi v525 c0_i32_336
  let c0_i32_343 : BitVec 32 := 0#32
  ![v526.toNat, 0]
def k0_dev20 (d0 : Dev nD) : Nat :=
  let c0_i32_340 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_339 : BitVec 32 := 16#32
  let v527 : BitVec 32 := Scalar.muli v2 c16_i32_339
  let v528 : BitVec 32 := Scalar.addi c0_i32_340 v527
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_341 : BitVec 32 := 4#32
  let v529 : BitVec 32 := Scalar.muli v12 c4_i32_341
  let v530 : BitVec 32 := Scalar.addi v528 v529
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_342 : BitVec 32 := 1#32
  let v531 : BitVec 32 := Scalar.muli v8 c1_i32_342
  let v532 : BitVec 32 := Scalar.addi v530 v531
  v532.toNat
def k0_cond20 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_66 : BitVec 32 := 1#32
  let v112 : BitVec 1 := Scalar.cmpi .sge v5 c1_i32_66
  let c1_i32_67 : BitVec 32 := 1#32
  let v113 : BitVec 32 := Scalar.addi v5 c1_i32_67
  let c3_i32_68 : BitVec 32 := 3#32
  let v114 : BitVec 1 := Scalar.cmpi .sle v113 c3_i32_68
  let v115 : BitVec 1 := Scalar.andi v112 v114
  let v116 : BitVec 32 := Scalar.extui v115
  let c0_i32_69 : BitVec 32 := 0#32
  let v117 : BitVec 1 := Scalar.cmpi .ne v116 c0_i32_69
  v117

def k0_off27 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.addi v5 c1_i32_332
  let c1024_i32_335 : BitVec 32 := 1024#32
  let v524 : BitVec 32 := Scalar.muli v520 c1024_i32_335
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v525 : BitVec 32 := Scalar.addi v524 v9
  let c0_i32_336 : BitVec 32 := 0#32
  let v526 : BitVec 32 := Scalar.addi v525 c0_i32_336
  let c0_i32_343 : BitVec 32 := 0#32
  ![v526.toNat, 0]
def k0_dev21 (d0 : Dev nD) : Nat :=
  let c0_i32_340 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_339 : BitVec 32 := 16#32
  let v527 : BitVec 32 := Scalar.muli v2 c16_i32_339
  let v528 : BitVec 32 := Scalar.addi c0_i32_340 v527
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_341 : BitVec 32 := 4#32
  let v529 : BitVec 32 := Scalar.muli v13 c4_i32_341
  let v530 : BitVec 32 := Scalar.addi v528 v529
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_342 : BitVec 32 := 1#32
  let v531 : BitVec 32 := Scalar.muli v8 c1_i32_342
  let v532 : BitVec 32 := Scalar.addi v530 v531
  v532.toNat
def k0_cond21 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_70 : BitVec 32 := 2#32
  let v118 : BitVec 1 := Scalar.cmpi .sle v5 c2_i32_70
  let c1_i32_71 : BitVec 32 := 1#32
  let v119 : BitVec 1 := Scalar.cmpi .sge v5 c1_i32_71
  let v120 : BitVec 1 := Scalar.andi v118 v119
  let v121 : BitVec 32 := Scalar.extui v120
  let c0_i32_72 : BitVec 32 := 0#32
  let v122 : BitVec 1 := Scalar.cmpi .ne v121 c0_i32_72
  v122

def k0_off28 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.subi v5 c1_i32_332
  let c1024_i32_334 : BitVec 32 := 1024#32
  let v524 : BitVec 32 := Scalar.muli v520 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v525 : BitVec 32 := Scalar.addi v524 v9
  let c128_i32_335 : BitVec 32 := 128#32
  let v526 : BitVec 32 := Scalar.addi v525 c128_i32_335
  let c0_i32_341 : BitVec 32 := 0#32
  ![v526.toNat, 0]
def k0_dev22 (d0 : Dev nD) : Nat :=
  let c0_i32_338 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_337 : BitVec 32 := 16#32
  let v527 : BitVec 32 := Scalar.muli v2 c16_i32_337
  let v528 : BitVec 32 := Scalar.addi c0_i32_338 v527
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_339 : BitVec 32 := 4#32
  let v529 : BitVec 32 := Scalar.muli v12 c4_i32_339
  let v530 : BitVec 32 := Scalar.addi v528 v529
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v531 : BitVec 32 := Scalar.muli v8 c1_i32_340
  let v532 : BitVec 32 := Scalar.addi v530 v531
  v532.toNat
def k0_cond22 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_73 : BitVec 32 := 1#32
  let v123 : BitVec 1 := Scalar.cmpi .sge v5 c1_i32_73
  let c1_i32_74 : BitVec 32 := 1#32
  let v124 : BitVec 32 := Scalar.addi v5 c1_i32_74
  let c3_i32_75 : BitVec 32 := 3#32
  let v125 : BitVec 1 := Scalar.cmpi .sle v124 c3_i32_75
  let v126 : BitVec 1 := Scalar.andi v123 v125
  let v127 : BitVec 32 := Scalar.extui v126
  let c0_i32_76 : BitVec 32 := 0#32
  let v128 : BitVec 1 := Scalar.cmpi .ne v127 c0_i32_76
  v128

def k0_off29 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.addi v5 c1_i32_332
  let c1024_i32_334 : BitVec 32 := 1024#32
  let v524 : BitVec 32 := Scalar.muli v520 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v525 : BitVec 32 := Scalar.addi v524 v9
  let c128_i32_335 : BitVec 32 := 128#32
  let v526 : BitVec 32 := Scalar.addi v525 c128_i32_335
  let c0_i32_341 : BitVec 32 := 0#32
  ![v526.toNat, 0]
def k0_dev23 (d0 : Dev nD) : Nat :=
  let c0_i32_338 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_337 : BitVec 32 := 16#32
  let v527 : BitVec 32 := Scalar.muli v2 c16_i32_337
  let v528 : BitVec 32 := Scalar.addi c0_i32_338 v527
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_339 : BitVec 32 := 4#32
  let v529 : BitVec 32 := Scalar.muli v13 c4_i32_339
  let v530 : BitVec 32 := Scalar.addi v528 v529
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v531 : BitVec 32 := Scalar.muli v8 c1_i32_340
  let v532 : BitVec 32 := Scalar.addi v530 v531
  v532.toNat
def k0_cond23 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_77 : BitVec 32 := 2#32
  let v129 : BitVec 1 := Scalar.cmpi .sle v5 c2_i32_77
  let c1_i32_78 : BitVec 32 := 1#32
  let v130 : BitVec 1 := Scalar.cmpi .sge v5 c1_i32_78
  let v131 : BitVec 1 := Scalar.andi v129 v130
  let v132 : BitVec 32 := Scalar.extui v131
  let c0_i32_79 : BitVec 32 := 0#32
  let v133 : BitVec 1 := Scalar.cmpi .ne v132 c0_i32_79
  v133

def k0_off30 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.subi v5 c1_i32_332
  let c1024_i32_334 : BitVec 32 := 1024#32
  let v524 : BitVec 32 := Scalar.muli v520 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v525 : BitVec 32 := Scalar.addi v524 v9
  let c256_i32_335 : BitVec 32 := 256#32
  let v526 : BitVec 32 := Scalar.addi v525 c256_i32_335
  let c0_i32_341 : BitVec 32 := 0#32
  ![v526.toNat, 0]
def k0_dev24 (d0 : Dev nD) : Nat :=
  let c0_i32_338 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_337 : BitVec 32 := 16#32
  let v527 : BitVec 32 := Scalar.muli v2 c16_i32_337
  let v528 : BitVec 32 := Scalar.addi c0_i32_338 v527
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_339 : BitVec 32 := 4#32
  let v529 : BitVec 32 := Scalar.muli v12 c4_i32_339
  let v530 : BitVec 32 := Scalar.addi v528 v529
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v531 : BitVec 32 := Scalar.muli v8 c1_i32_340
  let v532 : BitVec 32 := Scalar.addi v530 v531
  v532.toNat
def k0_cond24 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_80 : BitVec 32 := 1#32
  let v134 : BitVec 1 := Scalar.cmpi .sge v5 c1_i32_80
  let c1_i32_81 : BitVec 32 := 1#32
  let v135 : BitVec 32 := Scalar.addi v5 c1_i32_81
  let c3_i32_82 : BitVec 32 := 3#32
  let v136 : BitVec 1 := Scalar.cmpi .sle v135 c3_i32_82
  let v137 : BitVec 1 := Scalar.andi v134 v136
  let v138 : BitVec 32 := Scalar.extui v137
  let c0_i32_83 : BitVec 32 := 0#32
  let v139 : BitVec 1 := Scalar.cmpi .ne v138 c0_i32_83
  v139

def k0_off31 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.addi v5 c1_i32_332
  let c1024_i32_334 : BitVec 32 := 1024#32
  let v524 : BitVec 32 := Scalar.muli v520 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v525 : BitVec 32 := Scalar.addi v524 v9
  let c256_i32_335 : BitVec 32 := 256#32
  let v526 : BitVec 32 := Scalar.addi v525 c256_i32_335
  let c0_i32_341 : BitVec 32 := 0#32
  ![v526.toNat, 0]
def k0_dev25 (d0 : Dev nD) : Nat :=
  let c0_i32_338 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_337 : BitVec 32 := 16#32
  let v527 : BitVec 32 := Scalar.muli v2 c16_i32_337
  let v528 : BitVec 32 := Scalar.addi c0_i32_338 v527
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_339 : BitVec 32 := 4#32
  let v529 : BitVec 32 := Scalar.muli v13 c4_i32_339
  let v530 : BitVec 32 := Scalar.addi v528 v529
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v531 : BitVec 32 := Scalar.muli v8 c1_i32_340
  let v532 : BitVec 32 := Scalar.addi v530 v531
  v532.toNat
def k0_cond25 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_84 : BitVec 32 := 2#32
  let v140 : BitVec 1 := Scalar.cmpi .sle v5 c2_i32_84
  let c1_i32_85 : BitVec 32 := 1#32
  let v141 : BitVec 1 := Scalar.cmpi .sge v5 c1_i32_85
  let v142 : BitVec 1 := Scalar.andi v140 v141
  let v143 : BitVec 32 := Scalar.extui v142
  let c0_i32_86 : BitVec 32 := 0#32
  let v144 : BitVec 1 := Scalar.cmpi .ne v143 c0_i32_86
  v144

def k0_off32 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.subi v5 c1_i32_332
  let c1024_i32_334 : BitVec 32 := 1024#32
  let v524 : BitVec 32 := Scalar.muli v520 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v525 : BitVec 32 := Scalar.addi v524 v9
  let c384_i32_335 : BitVec 32 := 384#32
  let v526 : BitVec 32 := Scalar.addi v525 c384_i32_335
  let c0_i32_341 : BitVec 32 := 0#32
  ![v526.toNat, 0]
def k0_dev26 (d0 : Dev nD) : Nat :=
  let c0_i32_338 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_337 : BitVec 32 := 16#32
  let v527 : BitVec 32 := Scalar.muli v2 c16_i32_337
  let v528 : BitVec 32 := Scalar.addi c0_i32_338 v527
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_339 : BitVec 32 := 4#32
  let v529 : BitVec 32 := Scalar.muli v12 c4_i32_339
  let v530 : BitVec 32 := Scalar.addi v528 v529
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v531 : BitVec 32 := Scalar.muli v8 c1_i32_340
  let v532 : BitVec 32 := Scalar.addi v530 v531
  v532.toNat
def k0_cond26 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_87 : BitVec 32 := 1#32
  let v145 : BitVec 1 := Scalar.cmpi .sge v5 c1_i32_87
  let c1_i32_88 : BitVec 32 := 1#32
  let v146 : BitVec 32 := Scalar.addi v5 c1_i32_88
  let c3_i32_89 : BitVec 32 := 3#32
  let v147 : BitVec 1 := Scalar.cmpi .sle v146 c3_i32_89
  let v148 : BitVec 1 := Scalar.andi v145 v147
  let v149 : BitVec 32 := Scalar.extui v148
  let c0_i32_90 : BitVec 32 := 0#32
  let v150 : BitVec 1 := Scalar.cmpi .ne v149 c0_i32_90
  v150

def k0_off33 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.addi v5 c1_i32_332
  let c1024_i32_334 : BitVec 32 := 1024#32
  let v524 : BitVec 32 := Scalar.muli v520 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v525 : BitVec 32 := Scalar.addi v524 v9
  let c384_i32_335 : BitVec 32 := 384#32
  let v526 : BitVec 32 := Scalar.addi v525 c384_i32_335
  let c0_i32_341 : BitVec 32 := 0#32
  ![v526.toNat, 0]
def k0_dev27 (d0 : Dev nD) : Nat :=
  let c0_i32_338 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_337 : BitVec 32 := 16#32
  let v527 : BitVec 32 := Scalar.muli v2 c16_i32_337
  let v528 : BitVec 32 := Scalar.addi c0_i32_338 v527
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_339 : BitVec 32 := 4#32
  let v529 : BitVec 32 := Scalar.muli v13 c4_i32_339
  let v530 : BitVec 32 := Scalar.addi v528 v529
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v531 : BitVec 32 := Scalar.muli v8 c1_i32_340
  let v532 : BitVec 32 := Scalar.addi v530 v531
  v532.toNat
def k0_cond27 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_91 : BitVec 32 := 2#32
  let v151 : BitVec 1 := Scalar.cmpi .sge v5 c2_i32_91
  let v152 : BitVec 32 := Scalar.extui v151
  let c0_i32_92 : BitVec 32 := 0#32
  let v153 : BitVec 1 := Scalar.cmpi .ne v152 c0_i32_92
  v153

def k0_off34 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.subi v5 c1_i32_332
  let c1_i32_333 : BitVec 32 := 1#32
  let v521 : BitVec 32 := Scalar.subi v520 c1_i32_333
  let c1024_i32_334 : BitVec 32 := 1024#32
  let v522 : BitVec 32 := Scalar.muli v521 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c0_i32_335 : BitVec 32 := 0#32
  let v524 : BitVec 32 := Scalar.addi v523 c0_i32_335
  let c0_i32_342 : BitVec 32 := 0#32
  ![v524.toNat, 0]
def k0_dev28 (d0 : Dev nD) : Nat :=
  let c0_i32_346 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_6 v2
  let c16_i32_345 : BitVec 32 := 16#32
  let v535 : BitVec 32 := Scalar.muli v14 c16_i32_345
  let v536 : BitVec 32 := Scalar.addi c0_i32_346 v535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_347 : BitVec 32 := 4#32
  let v537 : BitVec 32 := Scalar.muli v5 c4_i32_347
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_348 : BitVec 32 := 1#32
  let v539 : BitVec 32 := Scalar.muli v8 c1_i32_348
  let v540 : BitVec 32 := Scalar.addi v538 v539
  v540.toNat
def k0_cond28 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_93 : BitVec 32 := 1#32
  let v154 : BitVec 1 := Scalar.cmpi .sle v5 c1_i32_93
  let v155 : BitVec 32 := Scalar.extui v154
  let c0_i32_94 : BitVec 32 := 0#32
  let v156 : BitVec 1 := Scalar.cmpi .ne v155 c0_i32_94
  v156

def k0_off35 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.addi v5 c1_i32_332
  let c1_i32_333 : BitVec 32 := 1#32
  let v521 : BitVec 32 := Scalar.addi v520 c1_i32_333
  let c1024_i32_334 : BitVec 32 := 1024#32
  let v522 : BitVec 32 := Scalar.muli v521 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c0_i32_335 : BitVec 32 := 0#32
  let v524 : BitVec 32 := Scalar.addi v523 c0_i32_335
  let c0_i32_342 : BitVec 32 := 0#32
  ![v524.toNat, 0]
def k0_dev29 (d0 : Dev nD) : Nat :=
  let c0_i32_346 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_6 v2
  let c16_i32_345 : BitVec 32 := 16#32
  let v535 : BitVec 32 := Scalar.muli v14 c16_i32_345
  let v536 : BitVec 32 := Scalar.addi c0_i32_346 v535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_347 : BitVec 32 := 4#32
  let v537 : BitVec 32 := Scalar.muli v5 c4_i32_347
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_348 : BitVec 32 := 1#32
  let v539 : BitVec 32 := Scalar.muli v8 c1_i32_348
  let v540 : BitVec 32 := Scalar.addi v538 v539
  v540.toNat
def k0_cond29 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_95 : BitVec 32 := 2#32
  let v157 : BitVec 1 := Scalar.cmpi .sge v5 c2_i32_95
  let v158 : BitVec 32 := Scalar.extui v157
  let c0_i32_96 : BitVec 32 := 0#32
  let v159 : BitVec 1 := Scalar.cmpi .ne v158 c0_i32_96
  v159

def k0_off36 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.subi v5 c1_i32_332
  let c1_i32_333 : BitVec 32 := 1#32
  let v521 : BitVec 32 := Scalar.subi v520 c1_i32_333
  let c1024_i32_334 : BitVec 32 := 1024#32
  let v522 : BitVec 32 := Scalar.muli v521 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c128_i32 : BitVec 32 := 128#32
  let v524 : BitVec 32 := Scalar.addi v523 c128_i32
  let c0_i32_340 : BitVec 32 := 0#32
  ![v524.toNat, 0]
def k0_dev30 (d0 : Dev nD) : Nat :=
  let c0_i32_344 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_6 v2
  let c16_i32_343 : BitVec 32 := 16#32
  let v535 : BitVec 32 := Scalar.muli v14 c16_i32_343
  let v536 : BitVec 32 := Scalar.addi c0_i32_344 v535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_345 : BitVec 32 := 4#32
  let v537 : BitVec 32 := Scalar.muli v5 c4_i32_345
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_346 : BitVec 32 := 1#32
  let v539 : BitVec 32 := Scalar.muli v8 c1_i32_346
  let v540 : BitVec 32 := Scalar.addi v538 v539
  v540.toNat
def k0_cond30 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_97 : BitVec 32 := 1#32
  let v160 : BitVec 1 := Scalar.cmpi .sle v5 c1_i32_97
  let v161 : BitVec 32 := Scalar.extui v160
  let c0_i32_98 : BitVec 32 := 0#32
  let v162 : BitVec 1 := Scalar.cmpi .ne v161 c0_i32_98
  v162

def k0_off37 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.addi v5 c1_i32_332
  let c1_i32_333 : BitVec 32 := 1#32
  let v521 : BitVec 32 := Scalar.addi v520 c1_i32_333
  let c1024_i32_334 : BitVec 32 := 1024#32
  let v522 : BitVec 32 := Scalar.muli v521 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c128_i32 : BitVec 32 := 128#32
  let v524 : BitVec 32 := Scalar.addi v523 c128_i32
  let c0_i32_340 : BitVec 32 := 0#32
  ![v524.toNat, 0]
def k0_dev31 (d0 : Dev nD) : Nat :=
  let c0_i32_344 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_6 v2
  let c16_i32_343 : BitVec 32 := 16#32
  let v535 : BitVec 32 := Scalar.muli v14 c16_i32_343
  let v536 : BitVec 32 := Scalar.addi c0_i32_344 v535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_345 : BitVec 32 := 4#32
  let v537 : BitVec 32 := Scalar.muli v5 c4_i32_345
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_346 : BitVec 32 := 1#32
  let v539 : BitVec 32 := Scalar.muli v8 c1_i32_346
  let v540 : BitVec 32 := Scalar.addi v538 v539
  v540.toNat
def k0_cond31 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_99 : BitVec 32 := 2#32
  let v163 : BitVec 1 := Scalar.cmpi .sge v5 c2_i32_99
  let v164 : BitVec 32 := Scalar.extui v163
  let c0_i32_100 : BitVec 32 := 0#32
  let v165 : BitVec 1 := Scalar.cmpi .ne v164 c0_i32_100
  v165

def k0_off38 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.subi v5 c1_i32_332
  let c1_i32_333 : BitVec 32 := 1#32
  let v521 : BitVec 32 := Scalar.subi v520 c1_i32_333
  let c1024_i32_334 : BitVec 32 := 1024#32
  let v522 : BitVec 32 := Scalar.muli v521 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c256_i32 : BitVec 32 := 256#32
  let v524 : BitVec 32 := Scalar.addi v523 c256_i32
  let c0_i32_340 : BitVec 32 := 0#32
  ![v524.toNat, 0]
def k0_dev32 (d0 : Dev nD) : Nat :=
  let c0_i32_344 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_6 v2
  let c16_i32_343 : BitVec 32 := 16#32
  let v535 : BitVec 32 := Scalar.muli v14 c16_i32_343
  let v536 : BitVec 32 := Scalar.addi c0_i32_344 v535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_345 : BitVec 32 := 4#32
  let v537 : BitVec 32 := Scalar.muli v5 c4_i32_345
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_346 : BitVec 32 := 1#32
  let v539 : BitVec 32 := Scalar.muli v8 c1_i32_346
  let v540 : BitVec 32 := Scalar.addi v538 v539
  v540.toNat
def k0_cond32 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v166 : BitVec 1 := Scalar.cmpi .sle v5 c1_i32_101
  let v167 : BitVec 32 := Scalar.extui v166
  let c0_i32_102 : BitVec 32 := 0#32
  let v168 : BitVec 1 := Scalar.cmpi .ne v167 c0_i32_102
  v168

def k0_off39 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.addi v5 c1_i32_332
  let c1_i32_333 : BitVec 32 := 1#32
  let v521 : BitVec 32 := Scalar.addi v520 c1_i32_333
  let c1024_i32_334 : BitVec 32 := 1024#32
  let v522 : BitVec 32 := Scalar.muli v521 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c256_i32 : BitVec 32 := 256#32
  let v524 : BitVec 32 := Scalar.addi v523 c256_i32
  let c0_i32_340 : BitVec 32 := 0#32
  ![v524.toNat, 0]
def k0_dev33 (d0 : Dev nD) : Nat :=
  let c0_i32_344 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_6 v2
  let c16_i32_343 : BitVec 32 := 16#32
  let v535 : BitVec 32 := Scalar.muli v14 c16_i32_343
  let v536 : BitVec 32 := Scalar.addi c0_i32_344 v535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_345 : BitVec 32 := 4#32
  let v537 : BitVec 32 := Scalar.muli v5 c4_i32_345
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_346 : BitVec 32 := 1#32
  let v539 : BitVec 32 := Scalar.muli v8 c1_i32_346
  let v540 : BitVec 32 := Scalar.addi v538 v539
  v540.toNat
def k0_cond33 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_103 : BitVec 32 := 2#32
  let v169 : BitVec 1 := Scalar.cmpi .sge v5 c2_i32_103
  let v170 : BitVec 32 := Scalar.extui v169
  let c0_i32_104 : BitVec 32 := 0#32
  let v171 : BitVec 1 := Scalar.cmpi .ne v170 c0_i32_104
  v171

def k0_off40 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.subi v5 c1_i32_332
  let c1_i32_333 : BitVec 32 := 1#32
  let v521 : BitVec 32 := Scalar.subi v520 c1_i32_333
  let c1024_i32_334 : BitVec 32 := 1024#32
  let v522 : BitVec 32 := Scalar.muli v521 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c384_i32 : BitVec 32 := 384#32
  let v524 : BitVec 32 := Scalar.addi v523 c384_i32
  let c0_i32_340 : BitVec 32 := 0#32
  ![v524.toNat, 0]
def k0_dev34 (d0 : Dev nD) : Nat :=
  let c0_i32_344 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_6 v2
  let c16_i32_343 : BitVec 32 := 16#32
  let v535 : BitVec 32 := Scalar.muli v14 c16_i32_343
  let v536 : BitVec 32 := Scalar.addi c0_i32_344 v535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_345 : BitVec 32 := 4#32
  let v537 : BitVec 32 := Scalar.muli v5 c4_i32_345
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_346 : BitVec 32 := 1#32
  let v539 : BitVec 32 := Scalar.muli v8 c1_i32_346
  let v540 : BitVec 32 := Scalar.addi v538 v539
  v540.toNat
def k0_cond34 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_105 : BitVec 32 := 1#32
  let v172 : BitVec 1 := Scalar.cmpi .sle v5 c1_i32_105
  let v173 : BitVec 32 := Scalar.extui v172
  let c0_i32_106 : BitVec 32 := 0#32
  let v174 : BitVec 1 := Scalar.cmpi .ne v173 c0_i32_106
  v174

def k0_off41 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.addi v5 c1_i32_332
  let c1_i32_333 : BitVec 32 := 1#32
  let v521 : BitVec 32 := Scalar.addi v520 c1_i32_333
  let c1024_i32_334 : BitVec 32 := 1024#32
  let v522 : BitVec 32 := Scalar.muli v521 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c384_i32 : BitVec 32 := 384#32
  let v524 : BitVec 32 := Scalar.addi v523 c384_i32
  let c0_i32_340 : BitVec 32 := 0#32
  ![v524.toNat, 0]
def k0_dev35 (d0 : Dev nD) : Nat :=
  let c0_i32_344 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_6 v2
  let c16_i32_343 : BitVec 32 := 16#32
  let v535 : BitVec 32 := Scalar.muli v14 c16_i32_343
  let v536 : BitVec 32 := Scalar.addi c0_i32_344 v535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_345 : BitVec 32 := 4#32
  let v537 : BitVec 32 := Scalar.muli v5 c4_i32_345
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_346 : BitVec 32 := 1#32
  let v539 : BitVec 32 := Scalar.muli v8 c1_i32_346
  let v540 : BitVec 32 := Scalar.addi v538 v539
  v540.toNat
def k0_cond35 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_107 : BitVec 32 := 2#32
  let v175 : BitVec 1 := Scalar.cmpi .sle v5 c2_i32_107
  let c2_i32_108 : BitVec 32 := 2#32
  let v176 : BitVec 1 := Scalar.cmpi .sge v5 c2_i32_108
  let v177 : BitVec 1 := Scalar.andi v175 v176
  let v178 : BitVec 32 := Scalar.extui v177
  let c0_i32_109 : BitVec 32 := 0#32
  let v179 : BitVec 1 := Scalar.cmpi .ne v178 c0_i32_109
  v179

def k0_off42 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_332 : BitVec 32 := 2#32
  let v520 : BitVec 32 := Scalar.subi v5 c2_i32_332
  let c1024_i32_335 : BitVec 32 := 1024#32
  let v524 : BitVec 32 := Scalar.muli v520 c1024_i32_335
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v525 : BitVec 32 := Scalar.addi v524 v9
  let c0_i32_336 : BitVec 32 := 0#32
  let v526 : BitVec 32 := Scalar.addi v525 c0_i32_336
  let c0_i32_342 : BitVec 32 := 0#32
  ![v526.toNat, 0]
def k0_dev36 (d0 : Dev nD) : Nat :=
  let c0_i32_339 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_338 : BitVec 32 := 16#32
  let v527 : BitVec 32 := Scalar.muli v2 c16_i32_338
  let v528 : BitVec 32 := Scalar.addi c0_i32_339 v527
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_340 : BitVec 32 := 4#32
  let v529 : BitVec 32 := Scalar.muli v12 c4_i32_340
  let v530 : BitVec 32 := Scalar.addi v528 v529
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_341 : BitVec 32 := 1#32
  let v531 : BitVec 32 := Scalar.muli v8 c1_i32_341
  let v532 : BitVec 32 := Scalar.addi v530 v531
  v532.toNat
def k0_cond36 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_110 : BitVec 32 := 1#32
  let v180 : BitVec 1 := Scalar.cmpi .sge v5 c1_i32_110
  let c2_i32_111 : BitVec 32 := 2#32
  let v181 : BitVec 32 := Scalar.addi v5 c2_i32_111
  let c3_i32_112 : BitVec 32 := 3#32
  let v182 : BitVec 1 := Scalar.cmpi .sle v181 c3_i32_112
  let v183 : BitVec 1 := Scalar.andi v180 v182
  let v184 : BitVec 32 := Scalar.extui v183
  let c0_i32_113 : BitVec 32 := 0#32
  let v185 : BitVec 1 := Scalar.cmpi .ne v184 c0_i32_113
  v185

def k0_off43 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_332 : BitVec 32 := 2#32
  let v520 : BitVec 32 := Scalar.addi v5 c2_i32_332
  let c1024_i32_335 : BitVec 32 := 1024#32
  let v524 : BitVec 32 := Scalar.muli v520 c1024_i32_335
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v525 : BitVec 32 := Scalar.addi v524 v9
  let c0_i32_336 : BitVec 32 := 0#32
  let v526 : BitVec 32 := Scalar.addi v525 c0_i32_336
  let c0_i32_342 : BitVec 32 := 0#32
  ![v526.toNat, 0]
def k0_dev37 (d0 : Dev nD) : Nat :=
  let c0_i32_339 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_338 : BitVec 32 := 16#32
  let v527 : BitVec 32 := Scalar.muli v2 c16_i32_338
  let v528 : BitVec 32 := Scalar.addi c0_i32_339 v527
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_340 : BitVec 32 := 4#32
  let v529 : BitVec 32 := Scalar.muli v13 c4_i32_340
  let v530 : BitVec 32 := Scalar.addi v528 v529
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_341 : BitVec 32 := 1#32
  let v531 : BitVec 32 := Scalar.muli v8 c1_i32_341
  let v532 : BitVec 32 := Scalar.addi v530 v531
  v532.toNat
def k0_cond37 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_114 : BitVec 32 := 2#32
  let v186 : BitVec 1 := Scalar.cmpi .sle v5 c2_i32_114
  let c2_i32_115 : BitVec 32 := 2#32
  let v187 : BitVec 1 := Scalar.cmpi .sge v5 c2_i32_115
  let v188 : BitVec 1 := Scalar.andi v186 v187
  let v189 : BitVec 32 := Scalar.extui v188
  let c0_i32_116 : BitVec 32 := 0#32
  let v190 : BitVec 1 := Scalar.cmpi .ne v189 c0_i32_116
  v190

def k0_off44 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_332 : BitVec 32 := 2#32
  let v520 : BitVec 32 := Scalar.subi v5 c2_i32_332
  let c1024_i32_334 : BitVec 32 := 1024#32
  let v524 : BitVec 32 := Scalar.muli v520 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v525 : BitVec 32 := Scalar.addi v524 v9
  let c128_i32_335 : BitVec 32 := 128#32
  let v526 : BitVec 32 := Scalar.addi v525 c128_i32_335
  let c0_i32_341 : BitVec 32 := 0#32
  ![v526.toNat, 0]
def k0_dev38 (d0 : Dev nD) : Nat :=
  let c0_i32_338 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_337 : BitVec 32 := 16#32
  let v527 : BitVec 32 := Scalar.muli v2 c16_i32_337
  let v528 : BitVec 32 := Scalar.addi c0_i32_338 v527
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_339 : BitVec 32 := 4#32
  let v529 : BitVec 32 := Scalar.muli v12 c4_i32_339
  let v530 : BitVec 32 := Scalar.addi v528 v529
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v531 : BitVec 32 := Scalar.muli v8 c1_i32_340
  let v532 : BitVec 32 := Scalar.addi v530 v531
  v532.toNat
def k0_cond38 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_117 : BitVec 32 := 1#32
  let v191 : BitVec 1 := Scalar.cmpi .sge v5 c1_i32_117
  let c2_i32_118 : BitVec 32 := 2#32
  let v192 : BitVec 32 := Scalar.addi v5 c2_i32_118
  let c3_i32_119 : BitVec 32 := 3#32
  let v193 : BitVec 1 := Scalar.cmpi .sle v192 c3_i32_119
  let v194 : BitVec 1 := Scalar.andi v191 v193
  let v195 : BitVec 32 := Scalar.extui v194
  let c0_i32_120 : BitVec 32 := 0#32
  let v196 : BitVec 1 := Scalar.cmpi .ne v195 c0_i32_120
  v196

def k0_off45 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_332 : BitVec 32 := 2#32
  let v520 : BitVec 32 := Scalar.addi v5 c2_i32_332
  let c1024_i32_334 : BitVec 32 := 1024#32
  let v524 : BitVec 32 := Scalar.muli v520 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v525 : BitVec 32 := Scalar.addi v524 v9
  let c128_i32_335 : BitVec 32 := 128#32
  let v526 : BitVec 32 := Scalar.addi v525 c128_i32_335
  let c0_i32_341 : BitVec 32 := 0#32
  ![v526.toNat, 0]
def k0_dev39 (d0 : Dev nD) : Nat :=
  let c0_i32_338 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_337 : BitVec 32 := 16#32
  let v527 : BitVec 32 := Scalar.muli v2 c16_i32_337
  let v528 : BitVec 32 := Scalar.addi c0_i32_338 v527
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_339 : BitVec 32 := 4#32
  let v529 : BitVec 32 := Scalar.muli v13 c4_i32_339
  let v530 : BitVec 32 := Scalar.addi v528 v529
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v531 : BitVec 32 := Scalar.muli v8 c1_i32_340
  let v532 : BitVec 32 := Scalar.addi v530 v531
  v532.toNat
def k0_cond39 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_121 : BitVec 32 := 2#32
  let v197 : BitVec 1 := Scalar.cmpi .sle v5 c2_i32_121
  let c2_i32_122 : BitVec 32 := 2#32
  let v198 : BitVec 1 := Scalar.cmpi .sge v5 c2_i32_122
  let v199 : BitVec 1 := Scalar.andi v197 v198
  let v200 : BitVec 32 := Scalar.extui v199
  let c0_i32_123 : BitVec 32 := 0#32
  let v201 : BitVec 1 := Scalar.cmpi .ne v200 c0_i32_123
  v201

def k0_off46 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_332 : BitVec 32 := 2#32
  let v520 : BitVec 32 := Scalar.subi v5 c2_i32_332
  let c1024_i32_334 : BitVec 32 := 1024#32
  let v524 : BitVec 32 := Scalar.muli v520 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v525 : BitVec 32 := Scalar.addi v524 v9
  let c256_i32_335 : BitVec 32 := 256#32
  let v526 : BitVec 32 := Scalar.addi v525 c256_i32_335
  let c0_i32_341 : BitVec 32 := 0#32
  ![v526.toNat, 0]
def k0_dev40 (d0 : Dev nD) : Nat :=
  let c0_i32_338 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_337 : BitVec 32 := 16#32
  let v527 : BitVec 32 := Scalar.muli v2 c16_i32_337
  let v528 : BitVec 32 := Scalar.addi c0_i32_338 v527
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_339 : BitVec 32 := 4#32
  let v529 : BitVec 32 := Scalar.muli v12 c4_i32_339
  let v530 : BitVec 32 := Scalar.addi v528 v529
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v531 : BitVec 32 := Scalar.muli v8 c1_i32_340
  let v532 : BitVec 32 := Scalar.addi v530 v531
  v532.toNat
def k0_cond40 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_124 : BitVec 32 := 1#32
  let v202 : BitVec 1 := Scalar.cmpi .sge v5 c1_i32_124
  let c2_i32_125 : BitVec 32 := 2#32
  let v203 : BitVec 32 := Scalar.addi v5 c2_i32_125
  let c3_i32_126 : BitVec 32 := 3#32
  let v204 : BitVec 1 := Scalar.cmpi .sle v203 c3_i32_126
  let v205 : BitVec 1 := Scalar.andi v202 v204
  let v206 : BitVec 32 := Scalar.extui v205
  let c0_i32_127 : BitVec 32 := 0#32
  let v207 : BitVec 1 := Scalar.cmpi .ne v206 c0_i32_127
  v207

def k0_off47 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_332 : BitVec 32 := 2#32
  let v520 : BitVec 32 := Scalar.addi v5 c2_i32_332
  let c1024_i32_334 : BitVec 32 := 1024#32
  let v524 : BitVec 32 := Scalar.muli v520 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v525 : BitVec 32 := Scalar.addi v524 v9
  let c256_i32_335 : BitVec 32 := 256#32
  let v526 : BitVec 32 := Scalar.addi v525 c256_i32_335
  let c0_i32_341 : BitVec 32 := 0#32
  ![v526.toNat, 0]
def k0_dev41 (d0 : Dev nD) : Nat :=
  let c0_i32_338 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_337 : BitVec 32 := 16#32
  let v527 : BitVec 32 := Scalar.muli v2 c16_i32_337
  let v528 : BitVec 32 := Scalar.addi c0_i32_338 v527
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_339 : BitVec 32 := 4#32
  let v529 : BitVec 32 := Scalar.muli v13 c4_i32_339
  let v530 : BitVec 32 := Scalar.addi v528 v529
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v531 : BitVec 32 := Scalar.muli v8 c1_i32_340
  let v532 : BitVec 32 := Scalar.addi v530 v531
  v532.toNat
def k0_cond41 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_128 : BitVec 32 := 2#32
  let v208 : BitVec 1 := Scalar.cmpi .sle v5 c2_i32_128
  let c2_i32_129 : BitVec 32 := 2#32
  let v209 : BitVec 1 := Scalar.cmpi .sge v5 c2_i32_129
  let v210 : BitVec 1 := Scalar.andi v208 v209
  let v211 : BitVec 32 := Scalar.extui v210
  let c0_i32_130 : BitVec 32 := 0#32
  let v212 : BitVec 1 := Scalar.cmpi .ne v211 c0_i32_130
  v212

def k0_off48 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_332 : BitVec 32 := 2#32
  let v520 : BitVec 32 := Scalar.subi v5 c2_i32_332
  let c1024_i32_334 : BitVec 32 := 1024#32
  let v524 : BitVec 32 := Scalar.muli v520 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v525 : BitVec 32 := Scalar.addi v524 v9
  let c384_i32_335 : BitVec 32 := 384#32
  let v526 : BitVec 32 := Scalar.addi v525 c384_i32_335
  let c0_i32_341 : BitVec 32 := 0#32
  ![v526.toNat, 0]
def k0_dev42 (d0 : Dev nD) : Nat :=
  let c0_i32_338 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_337 : BitVec 32 := 16#32
  let v527 : BitVec 32 := Scalar.muli v2 c16_i32_337
  let v528 : BitVec 32 := Scalar.addi c0_i32_338 v527
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_339 : BitVec 32 := 4#32
  let v529 : BitVec 32 := Scalar.muli v12 c4_i32_339
  let v530 : BitVec 32 := Scalar.addi v528 v529
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v531 : BitVec 32 := Scalar.muli v8 c1_i32_340
  let v532 : BitVec 32 := Scalar.addi v530 v531
  v532.toNat
def k0_cond42 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_131 : BitVec 32 := 1#32
  let v213 : BitVec 1 := Scalar.cmpi .sge v5 c1_i32_131
  let c2_i32_132 : BitVec 32 := 2#32
  let v214 : BitVec 32 := Scalar.addi v5 c2_i32_132
  let c3_i32_133 : BitVec 32 := 3#32
  let v215 : BitVec 1 := Scalar.cmpi .sle v214 c3_i32_133
  let v216 : BitVec 1 := Scalar.andi v213 v215
  let v217 : BitVec 32 := Scalar.extui v216
  let c0_i32_134 : BitVec 32 := 0#32
  let v218 : BitVec 1 := Scalar.cmpi .ne v217 c0_i32_134
  v218

def k0_off49 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_332 : BitVec 32 := 2#32
  let v520 : BitVec 32 := Scalar.addi v5 c2_i32_332
  let c1024_i32_334 : BitVec 32 := 1024#32
  let v524 : BitVec 32 := Scalar.muli v520 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v525 : BitVec 32 := Scalar.addi v524 v9
  let c384_i32_335 : BitVec 32 := 384#32
  let v526 : BitVec 32 := Scalar.addi v525 c384_i32_335
  let c0_i32_341 : BitVec 32 := 0#32
  ![v526.toNat, 0]
def k0_dev43 (d0 : Dev nD) : Nat :=
  let c0_i32_338 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_337 : BitVec 32 := 16#32
  let v527 : BitVec 32 := Scalar.muli v2 c16_i32_337
  let v528 : BitVec 32 := Scalar.addi c0_i32_338 v527
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_339 : BitVec 32 := 4#32
  let v529 : BitVec 32 := Scalar.muli v13 c4_i32_339
  let v530 : BitVec 32 := Scalar.addi v528 v529
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v531 : BitVec 32 := Scalar.muli v8 c1_i32_340
  let v532 : BitVec 32 := Scalar.addi v530 v531
  v532.toNat
def k0_cond43 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_135 : BitVec 32 := 3#32
  let v219 : BitVec 1 := Scalar.cmpi .sge v5 c3_i32_135
  let v220 : BitVec 32 := Scalar.extui v219
  let c0_i32_136 : BitVec 32 := 0#32
  let v221 : BitVec 1 := Scalar.cmpi .ne v220 c0_i32_136
  v221

def k0_off50 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.subi v5 c1_i32_332
  let c2_i32_333 : BitVec 32 := 2#32
  let v521 : BitVec 32 := Scalar.subi v520 c2_i32_333
  let c1024_i32_334 : BitVec 32 := 1024#32
  let v522 : BitVec 32 := Scalar.muli v521 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c0_i32_335 : BitVec 32 := 0#32
  let v524 : BitVec 32 := Scalar.addi v523 c0_i32_335
  let c0_i32_341 : BitVec 32 := 0#32
  ![v524.toNat, 0]
def k0_dev44 (d0 : Dev nD) : Nat :=
  let c0_i32_346 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_6 v2
  let c16_i32_345 : BitVec 32 := 16#32
  let v535 : BitVec 32 := Scalar.muli v14 c16_i32_345
  let v536 : BitVec 32 := Scalar.addi c0_i32_346 v535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_347 : BitVec 32 := 4#32
  let v537 : BitVec 32 := Scalar.muli v5 c4_i32_347
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_348 : BitVec 32 := 1#32
  let v539 : BitVec 32 := Scalar.muli v8 c1_i32_348
  let v540 : BitVec 32 := Scalar.addi v538 v539
  v540.toNat
def k0_cond44 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_137 : BitVec 32 := 0#32
  let v222 : BitVec 1 := Scalar.cmpi .sle v5 c0_i32_137
  let v223 : BitVec 32 := Scalar.extui v222
  let c0_i32_138 : BitVec 32 := 0#32
  let v224 : BitVec 1 := Scalar.cmpi .ne v223 c0_i32_138
  v224

def k0_off51 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.addi v5 c1_i32_332
  let c2_i32_333 : BitVec 32 := 2#32
  let v521 : BitVec 32 := Scalar.addi v520 c2_i32_333
  let c1024_i32_334 : BitVec 32 := 1024#32
  let v522 : BitVec 32 := Scalar.muli v521 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c0_i32_335 : BitVec 32 := 0#32
  let v524 : BitVec 32 := Scalar.addi v523 c0_i32_335
  let c0_i32_341 : BitVec 32 := 0#32
  ![v524.toNat, 0]
def k0_dev45 (d0 : Dev nD) : Nat :=
  let c0_i32_345 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_6 v2
  let c16_i32_344 : BitVec 32 := 16#32
  let v535 : BitVec 32 := Scalar.muli v14 c16_i32_344
  let v536 : BitVec 32 := Scalar.addi c0_i32_345 v535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_346 : BitVec 32 := 4#32
  let v537 : BitVec 32 := Scalar.muli v5 c4_i32_346
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v539 : BitVec 32 := Scalar.muli v8 c1_i32_347
  let v540 : BitVec 32 := Scalar.addi v538 v539
  v540.toNat
def k0_cond45 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_139 : BitVec 32 := 3#32
  let v225 : BitVec 1 := Scalar.cmpi .sge v5 c3_i32_139
  let v226 : BitVec 32 := Scalar.extui v225
  let c0_i32_140 : BitVec 32 := 0#32
  let v227 : BitVec 1 := Scalar.cmpi .ne v226 c0_i32_140
  v227

def k0_off52 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.subi v5 c1_i32_332
  let c2_i32_333 : BitVec 32 := 2#32
  let v521 : BitVec 32 := Scalar.subi v520 c2_i32_333
  let c1024_i32_334 : BitVec 32 := 1024#32
  let v522 : BitVec 32 := Scalar.muli v521 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c128_i32 : BitVec 32 := 128#32
  let v524 : BitVec 32 := Scalar.addi v523 c128_i32
  let c0_i32_340 : BitVec 32 := 0#32
  ![v524.toNat, 0]
def k0_dev46 (d0 : Dev nD) : Nat :=
  let c0_i32_344 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_6 v2
  let c16_i32_343 : BitVec 32 := 16#32
  let v535 : BitVec 32 := Scalar.muli v14 c16_i32_343
  let v536 : BitVec 32 := Scalar.addi c0_i32_344 v535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_345 : BitVec 32 := 4#32
  let v537 : BitVec 32 := Scalar.muli v5 c4_i32_345
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_346 : BitVec 32 := 1#32
  let v539 : BitVec 32 := Scalar.muli v8 c1_i32_346
  let v540 : BitVec 32 := Scalar.addi v538 v539
  v540.toNat
def k0_cond46 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_141 : BitVec 32 := 0#32
  let v228 : BitVec 1 := Scalar.cmpi .sle v5 c0_i32_141
  let v229 : BitVec 32 := Scalar.extui v228
  let c0_i32_142 : BitVec 32 := 0#32
  let v230 : BitVec 1 := Scalar.cmpi .ne v229 c0_i32_142
  v230

def k0_off53 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.addi v5 c1_i32_332
  let c2_i32_333 : BitVec 32 := 2#32
  let v521 : BitVec 32 := Scalar.addi v520 c2_i32_333
  let c1024_i32_334 : BitVec 32 := 1024#32
  let v522 : BitVec 32 := Scalar.muli v521 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c128_i32 : BitVec 32 := 128#32
  let v524 : BitVec 32 := Scalar.addi v523 c128_i32
  let c0_i32_340 : BitVec 32 := 0#32
  ![v524.toNat, 0]
def k0_dev47 (d0 : Dev nD) : Nat :=
  let c0_i32_344 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_6 v2
  let c16_i32_343 : BitVec 32 := 16#32
  let v535 : BitVec 32 := Scalar.muli v14 c16_i32_343
  let v536 : BitVec 32 := Scalar.addi c0_i32_344 v535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_345 : BitVec 32 := 4#32
  let v537 : BitVec 32 := Scalar.muli v5 c4_i32_345
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_346 : BitVec 32 := 1#32
  let v539 : BitVec 32 := Scalar.muli v8 c1_i32_346
  let v540 : BitVec 32 := Scalar.addi v538 v539
  v540.toNat
def k0_cond47 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_143 : BitVec 32 := 3#32
  let v231 : BitVec 1 := Scalar.cmpi .sge v5 c3_i32_143
  let v232 : BitVec 32 := Scalar.extui v231
  let c0_i32_144 : BitVec 32 := 0#32
  let v233 : BitVec 1 := Scalar.cmpi .ne v232 c0_i32_144
  v233

def k0_off54 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.subi v5 c1_i32_332
  let c2_i32_333 : BitVec 32 := 2#32
  let v521 : BitVec 32 := Scalar.subi v520 c2_i32_333
  let c1024_i32_334 : BitVec 32 := 1024#32
  let v522 : BitVec 32 := Scalar.muli v521 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c256_i32 : BitVec 32 := 256#32
  let v524 : BitVec 32 := Scalar.addi v523 c256_i32
  let c0_i32_340 : BitVec 32 := 0#32
  ![v524.toNat, 0]
def k0_dev48 (d0 : Dev nD) : Nat :=
  let c0_i32_344 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_6 v2
  let c16_i32_343 : BitVec 32 := 16#32
  let v535 : BitVec 32 := Scalar.muli v14 c16_i32_343
  let v536 : BitVec 32 := Scalar.addi c0_i32_344 v535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_345 : BitVec 32 := 4#32
  let v537 : BitVec 32 := Scalar.muli v5 c4_i32_345
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_346 : BitVec 32 := 1#32
  let v539 : BitVec 32 := Scalar.muli v8 c1_i32_346
  let v540 : BitVec 32 := Scalar.addi v538 v539
  v540.toNat
def k0_cond48 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_145 : BitVec 32 := 0#32
  let v234 : BitVec 1 := Scalar.cmpi .sle v5 c0_i32_145
  let v235 : BitVec 32 := Scalar.extui v234
  let c0_i32_146 : BitVec 32 := 0#32
  let v236 : BitVec 1 := Scalar.cmpi .ne v235 c0_i32_146
  v236

def k0_off55 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.addi v5 c1_i32_332
  let c2_i32_333 : BitVec 32 := 2#32
  let v521 : BitVec 32 := Scalar.addi v520 c2_i32_333
  let c1024_i32_334 : BitVec 32 := 1024#32
  let v522 : BitVec 32 := Scalar.muli v521 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c256_i32 : BitVec 32 := 256#32
  let v524 : BitVec 32 := Scalar.addi v523 c256_i32
  let c0_i32_340 : BitVec 32 := 0#32
  ![v524.toNat, 0]
def k0_dev49 (d0 : Dev nD) : Nat :=
  let c0_i32_344 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_6 v2
  let c16_i32_343 : BitVec 32 := 16#32
  let v535 : BitVec 32 := Scalar.muli v14 c16_i32_343
  let v536 : BitVec 32 := Scalar.addi c0_i32_344 v535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_345 : BitVec 32 := 4#32
  let v537 : BitVec 32 := Scalar.muli v5 c4_i32_345
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_346 : BitVec 32 := 1#32
  let v539 : BitVec 32 := Scalar.muli v8 c1_i32_346
  let v540 : BitVec 32 := Scalar.addi v538 v539
  v540.toNat
def k0_cond49 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_147 : BitVec 32 := 3#32
  let v237 : BitVec 1 := Scalar.cmpi .sge v5 c3_i32_147
  let v238 : BitVec 32 := Scalar.extui v237
  let c0_i32_148 : BitVec 32 := 0#32
  let v239 : BitVec 1 := Scalar.cmpi .ne v238 c0_i32_148
  v239

def k0_off56 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.subi v5 c1_i32_332
  let c2_i32_333 : BitVec 32 := 2#32
  let v521 : BitVec 32 := Scalar.subi v520 c2_i32_333
  let c1024_i32_334 : BitVec 32 := 1024#32
  let v522 : BitVec 32 := Scalar.muli v521 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c384_i32 : BitVec 32 := 384#32
  let v524 : BitVec 32 := Scalar.addi v523 c384_i32
  let c0_i32_340 : BitVec 32 := 0#32
  ![v524.toNat, 0]
def k0_dev50 (d0 : Dev nD) : Nat :=
  let c0_i32_344 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_6 v2
  let c16_i32_343 : BitVec 32 := 16#32
  let v535 : BitVec 32 := Scalar.muli v14 c16_i32_343
  let v536 : BitVec 32 := Scalar.addi c0_i32_344 v535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_345 : BitVec 32 := 4#32
  let v537 : BitVec 32 := Scalar.muli v5 c4_i32_345
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_346 : BitVec 32 := 1#32
  let v539 : BitVec 32 := Scalar.muli v8 c1_i32_346
  let v540 : BitVec 32 := Scalar.addi v538 v539
  v540.toNat
def k0_cond50 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_149 : BitVec 32 := 0#32
  let v240 : BitVec 1 := Scalar.cmpi .sle v5 c0_i32_149
  let v241 : BitVec 32 := Scalar.extui v240
  let c0_i32_150 : BitVec 32 := 0#32
  let v242 : BitVec 1 := Scalar.cmpi .ne v241 c0_i32_150
  v242

def k0_off57 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.addi v5 c1_i32_332
  let c2_i32_333 : BitVec 32 := 2#32
  let v521 : BitVec 32 := Scalar.addi v520 c2_i32_333
  let c1024_i32_334 : BitVec 32 := 1024#32
  let v522 : BitVec 32 := Scalar.muli v521 c1024_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v9 : BitVec 32 := Scalar.muli v2 c512_i32
  let v523 : BitVec 32 := Scalar.addi v522 v9
  let c384_i32 : BitVec 32 := 384#32
  let v524 : BitVec 32 := Scalar.addi v523 c384_i32
  let c0_i32_340 : BitVec 32 := 0#32
  ![v524.toNat, 0]
def k0_dev51 (d0 : Dev nD) : Nat :=
  let c0_i32_344 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_6 v2
  let c16_i32_343 : BitVec 32 := 16#32
  let v535 : BitVec 32 := Scalar.muli v14 c16_i32_343
  let v536 : BitVec 32 := Scalar.addi c0_i32_344 v535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_345 : BitVec 32 := 4#32
  let v537 : BitVec 32 := Scalar.muli v5 c4_i32_345
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_346 : BitVec 32 := 1#32
  let v539 : BitVec 32 := Scalar.muli v8 c1_i32_346
  let v540 : BitVec 32 := Scalar.addi v538 v539
  v540.toNat
def k0_cond51 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_151 : BitVec 32 := 1#32
  let v243 : BitVec 1 := Scalar.cmpi .sge v5 c1_i32_151
  let v244 : BitVec 32 := Scalar.extui v243
  let c0_i32_152 : BitVec 32 := 0#32
  let v245 : BitVec 1 := Scalar.cmpi .ne v244 c0_i32_152
  v245

def k0_off58 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.subi v5 c1_i32_332
  let c0_i32_333 : BitVec 32 := 0#32
  let v521 : BitVec 32 := Scalar.subi v520 c0_i32_333
  let c1024_i32_334 : BitVec 32 := 1024#32
  let v522 : BitVec 32 := Scalar.muli v521 c1024_i32_334
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c512_i32_3 : BitVec 32 := 512#32
  let v11 : BitVec 32 := Scalar.muli v10 c512_i32_3
  let v523 : BitVec 32 := Scalar.addi v522 v11
  let c0_i32_335 : BitVec 32 := 0#32
  let v524 : BitVec 32 := Scalar.addi v523 c0_i32_335
  let c0_i32_342 : BitVec 32 := 0#32
  ![v524.toNat, 0]
def k0_cond52 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_153 : BitVec 32 := 2#32
  let v246 : BitVec 1 := Scalar.cmpi .sle v5 c2_i32_153
  let v247 : BitVec 32 := Scalar.extui v246
  let c0_i32_154 : BitVec 32 := 0#32
  let v248 : BitVec 1 := Scalar.cmpi .ne v247 c0_i32_154
  v248

def k0_off59 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.addi v5 c1_i32_332
  let c0_i32_333 : BitVec 32 := 0#32
  let v521 : BitVec 32 := Scalar.addi v520 c0_i32_333
  let c1024_i32_334 : BitVec 32 := 1024#32
  let v522 : BitVec 32 := Scalar.muli v521 c1024_i32_334
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c512_i32_3 : BitVec 32 := 512#32
  let v11 : BitVec 32 := Scalar.muli v10 c512_i32_3
  let v523 : BitVec 32 := Scalar.addi v522 v11
  let c0_i32_335 : BitVec 32 := 0#32
  let v524 : BitVec 32 := Scalar.addi v523 c0_i32_335
  let c0_i32_342 : BitVec 32 := 0#32
  ![v524.toNat, 0]
def k0_cond53 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_155 : BitVec 32 := 1#32
  let v249 : BitVec 1 := Scalar.cmpi .sge v5 c1_i32_155
  let v250 : BitVec 32 := Scalar.extui v249
  let c0_i32_156 : BitVec 32 := 0#32
  let v251 : BitVec 1 := Scalar.cmpi .ne v250 c0_i32_156
  v251

def k0_off60 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.subi v5 c1_i32_332
  let c0_i32_333 : BitVec 32 := 0#32
  let v521 : BitVec 32 := Scalar.subi v520 c0_i32_333
  let c1024_i32_334 : BitVec 32 := 1024#32
  let v522 : BitVec 32 := Scalar.muli v521 c1024_i32_334
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c512_i32_3 : BitVec 32 := 512#32
  let v11 : BitVec 32 := Scalar.muli v10 c512_i32_3
  let v523 : BitVec 32 := Scalar.addi v522 v11
  let c128_i32 : BitVec 32 := 128#32
  let v524 : BitVec 32 := Scalar.addi v523 c128_i32
  let c0_i32_341 : BitVec 32 := 0#32
  ![v524.toNat, 0]
def k0_cond54 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_157 : BitVec 32 := 2#32
  let v252 : BitVec 1 := Scalar.cmpi .sle v5 c2_i32_157
  let v253 : BitVec 32 := Scalar.extui v252
  let c0_i32_158 : BitVec 32 := 0#32
  let v254 : BitVec 1 := Scalar.cmpi .ne v253 c0_i32_158
  v254

def k0_off61 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.addi v5 c1_i32_332
  let c0_i32_333 : BitVec 32 := 0#32
  let v521 : BitVec 32 := Scalar.addi v520 c0_i32_333
  let c1024_i32_334 : BitVec 32 := 1024#32
  let v522 : BitVec 32 := Scalar.muli v521 c1024_i32_334
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c512_i32_3 : BitVec 32 := 512#32
  let v11 : BitVec 32 := Scalar.muli v10 c512_i32_3
  let v523 : BitVec 32 := Scalar.addi v522 v11
  let c128_i32 : BitVec 32 := 128#32
  let v524 : BitVec 32 := Scalar.addi v523 c128_i32
  let c0_i32_341 : BitVec 32 := 0#32
  ![v524.toNat, 0]
def k0_cond55 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_159 : BitVec 32 := 1#32
  let v255 : BitVec 1 := Scalar.cmpi .sge v5 c1_i32_159
  let v256 : BitVec 32 := Scalar.extui v255
  let c0_i32_160 : BitVec 32 := 0#32
  let v257 : BitVec 1 := Scalar.cmpi .ne v256 c0_i32_160
  v257

def k0_off62 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.subi v5 c1_i32_332
  let c0_i32_333 : BitVec 32 := 0#32
  let v521 : BitVec 32 := Scalar.subi v520 c0_i32_333
  let c1024_i32_334 : BitVec 32 := 1024#32
  let v522 : BitVec 32 := Scalar.muli v521 c1024_i32_334
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c512_i32_3 : BitVec 32 := 512#32
  let v11 : BitVec 32 := Scalar.muli v10 c512_i32_3
  let v523 : BitVec 32 := Scalar.addi v522 v11
  let c256_i32 : BitVec 32 := 256#32
  let v524 : BitVec 32 := Scalar.addi v523 c256_i32
  let c0_i32_341 : BitVec 32 := 0#32
  ![v524.toNat, 0]
def k0_cond56 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_161 : BitVec 32 := 2#32
  let v258 : BitVec 1 := Scalar.cmpi .sle v5 c2_i32_161
  let v259 : BitVec 32 := Scalar.extui v258
  let c0_i32_162 : BitVec 32 := 0#32
  let v260 : BitVec 1 := Scalar.cmpi .ne v259 c0_i32_162
  v260

def k0_off63 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.addi v5 c1_i32_332
  let c0_i32_333 : BitVec 32 := 0#32
  let v521 : BitVec 32 := Scalar.addi v520 c0_i32_333
  let c1024_i32_334 : BitVec 32 := 1024#32
  let v522 : BitVec 32 := Scalar.muli v521 c1024_i32_334
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c512_i32_3 : BitVec 32 := 512#32
  let v11 : BitVec 32 := Scalar.muli v10 c512_i32_3
  let v523 : BitVec 32 := Scalar.addi v522 v11
  let c256_i32 : BitVec 32 := 256#32
  let v524 : BitVec 32 := Scalar.addi v523 c256_i32
  let c0_i32_340 : BitVec 32 := 0#32
  ![v524.toNat, 0]
def k0_cond57 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_163 : BitVec 32 := 1#32
  let v261 : BitVec 1 := Scalar.cmpi .sge v5 c1_i32_163
  let v262 : BitVec 32 := Scalar.extui v261
  let c0_i32_164 : BitVec 32 := 0#32
  let v263 : BitVec 1 := Scalar.cmpi .ne v262 c0_i32_164
  v263

def k0_off64 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.subi v5 c1_i32_332
  let c0_i32_333 : BitVec 32 := 0#32
  let v521 : BitVec 32 := Scalar.subi v520 c0_i32_333
  let c1024_i32_334 : BitVec 32 := 1024#32
  let v522 : BitVec 32 := Scalar.muli v521 c1024_i32_334
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c512_i32_3 : BitVec 32 := 512#32
  let v11 : BitVec 32 := Scalar.muli v10 c512_i32_3
  let v523 : BitVec 32 := Scalar.addi v522 v11
  let c384_i32 : BitVec 32 := 384#32
  let v524 : BitVec 32 := Scalar.addi v523 c384_i32
  let c0_i32_340 : BitVec 32 := 0#32
  ![v524.toNat, 0]
def k0_cond58 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_165 : BitVec 32 := 2#32
  let v264 : BitVec 1 := Scalar.cmpi .sle v5 c2_i32_165
  let v265 : BitVec 32 := Scalar.extui v264
  let c0_i32_166 : BitVec 32 := 0#32
  let v266 : BitVec 1 := Scalar.cmpi .ne v265 c0_i32_166
  v266

def k0_off65 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.addi v5 c1_i32_332
  let c0_i32_333 : BitVec 32 := 0#32
  let v521 : BitVec 32 := Scalar.addi v520 c0_i32_333
  let c1024_i32_334 : BitVec 32 := 1024#32
  let v522 : BitVec 32 := Scalar.muli v521 c1024_i32_334
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c512_i32_3 : BitVec 32 := 512#32
  let v11 : BitVec 32 := Scalar.muli v10 c512_i32_3
  let v523 : BitVec 32 := Scalar.addi v522 v11
  let c384_i32 : BitVec 32 := 384#32
  let v524 : BitVec 32 := Scalar.addi v523 c384_i32
  let c0_i32_340 : BitVec 32 := 0#32
  ![v524.toNat, 0]
def k0_cond59 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_167 : BitVec 32 := 2#32
  let v267 : BitVec 1 := Scalar.cmpi .sge v5 c2_i32_167
  let v268 : BitVec 32 := Scalar.extui v267
  let c0_i32_168 : BitVec 32 := 0#32
  let v269 : BitVec 1 := Scalar.cmpi .ne v268 c0_i32_168
  v269

def k0_off66 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.subi v5 c1_i32_332
  let c1_i32_333 : BitVec 32 := 1#32
  let v521 : BitVec 32 := Scalar.subi v520 c1_i32_333
  let c1024_i32_334 : BitVec 32 := 1024#32
  let v522 : BitVec 32 := Scalar.muli v521 c1024_i32_334
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c512_i32_3 : BitVec 32 := 512#32
  let v11 : BitVec 32 := Scalar.muli v10 c512_i32_3
  let v523 : BitVec 32 := Scalar.addi v522 v11
  let c0_i32_335 : BitVec 32 := 0#32
  let v524 : BitVec 32 := Scalar.addi v523 c0_i32_335
  let c0_i32_341 : BitVec 32 := 0#32
  ![v524.toNat, 0]
def k0_cond60 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_169 : BitVec 32 := 1#32
  let v270 : BitVec 1 := Scalar.cmpi .sle v5 c1_i32_169
  let v271 : BitVec 32 := Scalar.extui v270
  let c0_i32_170 : BitVec 32 := 0#32
  let v272 : BitVec 1 := Scalar.cmpi .ne v271 c0_i32_170
  v272

def k0_off67 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.addi v5 c1_i32_332
  let c1_i32_333 : BitVec 32 := 1#32
  let v521 : BitVec 32 := Scalar.addi v520 c1_i32_333
  let c1024_i32_334 : BitVec 32 := 1024#32
  let v522 : BitVec 32 := Scalar.muli v521 c1024_i32_334
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c512_i32_3 : BitVec 32 := 512#32
  let v11 : BitVec 32 := Scalar.muli v10 c512_i32_3
  let v523 : BitVec 32 := Scalar.addi v522 v11
  let c0_i32_335 : BitVec 32 := 0#32
  let v524 : BitVec 32 := Scalar.addi v523 c0_i32_335
  let c0_i32_341 : BitVec 32 := 0#32
  ![v524.toNat, 0]
def k0_cond61 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_171 : BitVec 32 := 2#32
  let v273 : BitVec 1 := Scalar.cmpi .sge v5 c2_i32_171
  let v274 : BitVec 32 := Scalar.extui v273
  let c0_i32_172 : BitVec 32 := 0#32
  let v275 : BitVec 1 := Scalar.cmpi .ne v274 c0_i32_172
  v275

def k0_off68 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.subi v5 c1_i32_332
  let c1_i32_333 : BitVec 32 := 1#32
  let v521 : BitVec 32 := Scalar.subi v520 c1_i32_333
  let c1024_i32_334 : BitVec 32 := 1024#32
  let v522 : BitVec 32 := Scalar.muli v521 c1024_i32_334
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c512_i32_3 : BitVec 32 := 512#32
  let v11 : BitVec 32 := Scalar.muli v10 c512_i32_3
  let v523 : BitVec 32 := Scalar.addi v522 v11
  let c128_i32 : BitVec 32 := 128#32
  let v524 : BitVec 32 := Scalar.addi v523 c128_i32
  let c0_i32_340 : BitVec 32 := 0#32
  ![v524.toNat, 0]
def k0_cond62 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_173 : BitVec 32 := 1#32
  let v276 : BitVec 1 := Scalar.cmpi .sle v5 c1_i32_173
  let v277 : BitVec 32 := Scalar.extui v276
  let c0_i32_174 : BitVec 32 := 0#32
  let v278 : BitVec 1 := Scalar.cmpi .ne v277 c0_i32_174
  v278

def k0_off69 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.addi v5 c1_i32_332
  let c1_i32_333 : BitVec 32 := 1#32
  let v521 : BitVec 32 := Scalar.addi v520 c1_i32_333
  let c1024_i32_334 : BitVec 32 := 1024#32
  let v522 : BitVec 32 := Scalar.muli v521 c1024_i32_334
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c512_i32_3 : BitVec 32 := 512#32
  let v11 : BitVec 32 := Scalar.muli v10 c512_i32_3
  let v523 : BitVec 32 := Scalar.addi v522 v11
  let c128_i32 : BitVec 32 := 128#32
  let v524 : BitVec 32 := Scalar.addi v523 c128_i32
  let c0_i32_340 : BitVec 32 := 0#32
  ![v524.toNat, 0]
def k0_cond63 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_175 : BitVec 32 := 2#32
  let v279 : BitVec 1 := Scalar.cmpi .sge v5 c2_i32_175
  let v280 : BitVec 32 := Scalar.extui v279
  let c0_i32_176 : BitVec 32 := 0#32
  let v281 : BitVec 1 := Scalar.cmpi .ne v280 c0_i32_176
  v281

def k0_off70 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.subi v5 c1_i32_332
  let c1_i32_333 : BitVec 32 := 1#32
  let v521 : BitVec 32 := Scalar.subi v520 c1_i32_333
  let c1024_i32_334 : BitVec 32 := 1024#32
  let v522 : BitVec 32 := Scalar.muli v521 c1024_i32_334
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c512_i32_3 : BitVec 32 := 512#32
  let v11 : BitVec 32 := Scalar.muli v10 c512_i32_3
  let v523 : BitVec 32 := Scalar.addi v522 v11
  let c256_i32 : BitVec 32 := 256#32
  let v524 : BitVec 32 := Scalar.addi v523 c256_i32
  let c0_i32_340 : BitVec 32 := 0#32
  ![v524.toNat, 0]
def k0_cond64 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_177 : BitVec 32 := 1#32
  let v282 : BitVec 1 := Scalar.cmpi .sle v5 c1_i32_177
  let v283 : BitVec 32 := Scalar.extui v282
  let c0_i32_178 : BitVec 32 := 0#32
  let v284 : BitVec 1 := Scalar.cmpi .ne v283 c0_i32_178
  v284

def k0_off71 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.addi v5 c1_i32_332
  let c1_i32_333 : BitVec 32 := 1#32
  let v521 : BitVec 32 := Scalar.addi v520 c1_i32_333
  let c1024_i32_334 : BitVec 32 := 1024#32
  let v522 : BitVec 32 := Scalar.muli v521 c1024_i32_334
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c512_i32_3 : BitVec 32 := 512#32
  let v11 : BitVec 32 := Scalar.muli v10 c512_i32_3
  let v523 : BitVec 32 := Scalar.addi v522 v11
  let c256_i32 : BitVec 32 := 256#32
  let v524 : BitVec 32 := Scalar.addi v523 c256_i32
  let c0_i32_340 : BitVec 32 := 0#32
  ![v524.toNat, 0]
def k0_cond65 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_179 : BitVec 32 := 2#32
  let v285 : BitVec 1 := Scalar.cmpi .sge v5 c2_i32_179
  let v286 : BitVec 32 := Scalar.extui v285
  let c0_i32_180 : BitVec 32 := 0#32
  let v287 : BitVec 1 := Scalar.cmpi .ne v286 c0_i32_180
  v287

def k0_off72 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.subi v5 c1_i32_332
  let c1_i32_333 : BitVec 32 := 1#32
  let v521 : BitVec 32 := Scalar.subi v520 c1_i32_333
  let c1024_i32_334 : BitVec 32 := 1024#32
  let v522 : BitVec 32 := Scalar.muli v521 c1024_i32_334
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c512_i32_3 : BitVec 32 := 512#32
  let v11 : BitVec 32 := Scalar.muli v10 c512_i32_3
  let v523 : BitVec 32 := Scalar.addi v522 v11
  let c384_i32 : BitVec 32 := 384#32
  let v524 : BitVec 32 := Scalar.addi v523 c384_i32
  let c0_i32_340 : BitVec 32 := 0#32
  ![v524.toNat, 0]
def k0_cond66 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_181 : BitVec 32 := 1#32
  let v288 : BitVec 1 := Scalar.cmpi .sle v5 c1_i32_181
  let v289 : BitVec 32 := Scalar.extui v288
  let c0_i32_182 : BitVec 32 := 0#32
  let v290 : BitVec 1 := Scalar.cmpi .ne v289 c0_i32_182
  v290

def k0_off73 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.addi v5 c1_i32_332
  let c1_i32_333 : BitVec 32 := 1#32
  let v521 : BitVec 32 := Scalar.addi v520 c1_i32_333
  let c1024_i32_334 : BitVec 32 := 1024#32
  let v522 : BitVec 32 := Scalar.muli v521 c1024_i32_334
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c512_i32_3 : BitVec 32 := 512#32
  let v11 : BitVec 32 := Scalar.muli v10 c512_i32_3
  let v523 : BitVec 32 := Scalar.addi v522 v11
  let c384_i32 : BitVec 32 := 384#32
  let v524 : BitVec 32 := Scalar.addi v523 c384_i32
  let c0_i32_340 : BitVec 32 := 0#32
  ![v524.toNat, 0]
def k0_cond67 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_183 : BitVec 32 := 3#32
  let v291 : BitVec 1 := Scalar.cmpi .sge v5 c3_i32_183
  let v292 : BitVec 32 := Scalar.extui v291
  let c0_i32_184 : BitVec 32 := 0#32
  let v293 : BitVec 1 := Scalar.cmpi .ne v292 c0_i32_184
  v293

def k0_off74 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.subi v5 c1_i32_332
  let c2_i32_333 : BitVec 32 := 2#32
  let v521 : BitVec 32 := Scalar.subi v520 c2_i32_333
  let c1024_i32_334 : BitVec 32 := 1024#32
  let v522 : BitVec 32 := Scalar.muli v521 c1024_i32_334
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c512_i32_3 : BitVec 32 := 512#32
  let v11 : BitVec 32 := Scalar.muli v10 c512_i32_3
  let v523 : BitVec 32 := Scalar.addi v522 v11
  let c0_i32_335 : BitVec 32 := 0#32
  let v524 : BitVec 32 := Scalar.addi v523 c0_i32_335
  let c0_i32_342 : BitVec 32 := 0#32
  ![v524.toNat, 0]
def k0_cond68 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_185 : BitVec 32 := 0#32
  let v294 : BitVec 1 := Scalar.cmpi .sle v5 c0_i32_185
  let v295 : BitVec 32 := Scalar.extui v294
  let c0_i32_186 : BitVec 32 := 0#32
  let v296 : BitVec 1 := Scalar.cmpi .ne v295 c0_i32_186
  v296

def k0_off75 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.addi v5 c1_i32_332
  let c2_i32_333 : BitVec 32 := 2#32
  let v521 : BitVec 32 := Scalar.addi v520 c2_i32_333
  let c1024_i32_334 : BitVec 32 := 1024#32
  let v522 : BitVec 32 := Scalar.muli v521 c1024_i32_334
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c512_i32_3 : BitVec 32 := 512#32
  let v11 : BitVec 32 := Scalar.muli v10 c512_i32_3
  let v523 : BitVec 32 := Scalar.addi v522 v11
  let c0_i32_335 : BitVec 32 := 0#32
  let v524 : BitVec 32 := Scalar.addi v523 c0_i32_335
  let c0_i32_341 : BitVec 32 := 0#32
  ![v524.toNat, 0]
def k0_cond69 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_187 : BitVec 32 := 3#32
  let v297 : BitVec 1 := Scalar.cmpi .sge v5 c3_i32_187
  let v298 : BitVec 32 := Scalar.extui v297
  let c0_i32_188 : BitVec 32 := 0#32
  let v299 : BitVec 1 := Scalar.cmpi .ne v298 c0_i32_188
  v299

def k0_off76 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.subi v5 c1_i32_332
  let c2_i32_333 : BitVec 32 := 2#32
  let v521 : BitVec 32 := Scalar.subi v520 c2_i32_333
  let c1024_i32_334 : BitVec 32 := 1024#32
  let v522 : BitVec 32 := Scalar.muli v521 c1024_i32_334
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c512_i32_3 : BitVec 32 := 512#32
  let v11 : BitVec 32 := Scalar.muli v10 c512_i32_3
  let v523 : BitVec 32 := Scalar.addi v522 v11
  let c128_i32 : BitVec 32 := 128#32
  let v524 : BitVec 32 := Scalar.addi v523 c128_i32
  let c0_i32_340 : BitVec 32 := 0#32
  ![v524.toNat, 0]
def k0_cond70 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_189 : BitVec 32 := 0#32
  let v300 : BitVec 1 := Scalar.cmpi .sle v5 c0_i32_189
  let v301 : BitVec 32 := Scalar.extui v300
  let c0_i32_190 : BitVec 32 := 0#32
  let v302 : BitVec 1 := Scalar.cmpi .ne v301 c0_i32_190
  v302

def k0_off77 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.addi v5 c1_i32_332
  let c2_i32_333 : BitVec 32 := 2#32
  let v521 : BitVec 32 := Scalar.addi v520 c2_i32_333
  let c1024_i32_334 : BitVec 32 := 1024#32
  let v522 : BitVec 32 := Scalar.muli v521 c1024_i32_334
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c512_i32_3 : BitVec 32 := 512#32
  let v11 : BitVec 32 := Scalar.muli v10 c512_i32_3
  let v523 : BitVec 32 := Scalar.addi v522 v11
  let c128_i32 : BitVec 32 := 128#32
  let v524 : BitVec 32 := Scalar.addi v523 c128_i32
  let c0_i32_340 : BitVec 32 := 0#32
  ![v524.toNat, 0]
def k0_cond71 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_191 : BitVec 32 := 3#32
  let v303 : BitVec 1 := Scalar.cmpi .sge v5 c3_i32_191
  let v304 : BitVec 32 := Scalar.extui v303
  let c0_i32_192 : BitVec 32 := 0#32
  let v305 : BitVec 1 := Scalar.cmpi .ne v304 c0_i32_192
  v305

def k0_off78 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.subi v5 c1_i32_332
  let c2_i32_333 : BitVec 32 := 2#32
  let v521 : BitVec 32 := Scalar.subi v520 c2_i32_333
  let c1024_i32_334 : BitVec 32 := 1024#32
  let v522 : BitVec 32 := Scalar.muli v521 c1024_i32_334
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c512_i32_3 : BitVec 32 := 512#32
  let v11 : BitVec 32 := Scalar.muli v10 c512_i32_3
  let v523 : BitVec 32 := Scalar.addi v522 v11
  let c256_i32 : BitVec 32 := 256#32
  let v524 : BitVec 32 := Scalar.addi v523 c256_i32
  let c0_i32_340 : BitVec 32 := 0#32
  ![v524.toNat, 0]
def k0_cond72 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_193 : BitVec 32 := 0#32
  let v306 : BitVec 1 := Scalar.cmpi .sle v5 c0_i32_193
  let v307 : BitVec 32 := Scalar.extui v306
  let c0_i32_194 : BitVec 32 := 0#32
  let v308 : BitVec 1 := Scalar.cmpi .ne v307 c0_i32_194
  v308

def k0_off79 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.addi v5 c1_i32_332
  let c2_i32_333 : BitVec 32 := 2#32
  let v521 : BitVec 32 := Scalar.addi v520 c2_i32_333
  let c1024_i32_334 : BitVec 32 := 1024#32
  let v522 : BitVec 32 := Scalar.muli v521 c1024_i32_334
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c512_i32_3 : BitVec 32 := 512#32
  let v11 : BitVec 32 := Scalar.muli v10 c512_i32_3
  let v523 : BitVec 32 := Scalar.addi v522 v11
  let c256_i32 : BitVec 32 := 256#32
  let v524 : BitVec 32 := Scalar.addi v523 c256_i32
  let c0_i32_340 : BitVec 32 := 0#32
  ![v524.toNat, 0]
def k0_cond73 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_195 : BitVec 32 := 3#32
  let v309 : BitVec 1 := Scalar.cmpi .sge v5 c3_i32_195
  let v310 : BitVec 32 := Scalar.extui v309
  let c0_i32_196 : BitVec 32 := 0#32
  let v311 : BitVec 1 := Scalar.cmpi .ne v310 c0_i32_196
  v311

def k0_off80 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.subi v5 c1_i32_332
  let c2_i32_333 : BitVec 32 := 2#32
  let v521 : BitVec 32 := Scalar.subi v520 c2_i32_333
  let c1024_i32_334 : BitVec 32 := 1024#32
  let v522 : BitVec 32 := Scalar.muli v521 c1024_i32_334
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c512_i32_3 : BitVec 32 := 512#32
  let v11 : BitVec 32 := Scalar.muli v10 c512_i32_3
  let v523 : BitVec 32 := Scalar.addi v522 v11
  let c384_i32 : BitVec 32 := 384#32
  let v524 : BitVec 32 := Scalar.addi v523 c384_i32
  let c0_i32_340 : BitVec 32 := 0#32
  ![v524.toNat, 0]
def k0_cond74 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_197 : BitVec 32 := 0#32
  let v312 : BitVec 1 := Scalar.cmpi .sle v5 c0_i32_197
  let v313 : BitVec 32 := Scalar.extui v312
  let c0_i32_198 : BitVec 32 := 0#32
  let v314 : BitVec 1 := Scalar.cmpi .ne v313 c0_i32_198
  v314

def k0_off81 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_332 : BitVec 32 := 1#32
  let v520 : BitVec 32 := Scalar.addi v5 c1_i32_332
  let c2_i32_333 : BitVec 32 := 2#32
  let v521 : BitVec 32 := Scalar.addi v520 c2_i32_333
  let c1024_i32_334 : BitVec 32 := 1024#32
  let v522 : BitVec 32 := Scalar.muli v521 c1024_i32_334
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c512_i32_3 : BitVec 32 := 512#32
  let v11 : BitVec 32 := Scalar.muli v10 c512_i32_3
  let v523 : BitVec 32 := Scalar.addi v522 v11
  let c384_i32 : BitVec 32 := 384#32
  let v524 : BitVec 32 := Scalar.addi v523 c384_i32
  let c0_i32_340 : BitVec 32 := 0#32
  ![v524.toNat, 0]
def k0_cond75 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_200 : BitVec 32 := 2#32
  let v316 : BitVec 1 := Scalar.cmpi .sle v5 c2_i32_200
  let c0_i32_201 : BitVec 32 := 0#32
  let v317 : BitVec 1 := Scalar.cmpi .sge v5 c0_i32_201
  let v318 : BitVec 1 := Scalar.andi v316 v317
  let v319 : BitVec 32 := Scalar.extui v318
  let c0_i32_202 : BitVec 32 := 0#32
  let v320 : BitVec 1 := Scalar.cmpi .ne v319 c0_i32_202
  v320

def k0_off82 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_335 : BitVec 32 := 0#32
  ![v315.toNat, 0]
def k0_cond76 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_203 : BitVec 32 := 1#32
  let v321 : BitVec 1 := Scalar.cmpi .sge v5 c1_i32_203
  let c0_i32_204 : BitVec 32 := 0#32
  let v322 : BitVec 32 := Scalar.addi v5 c0_i32_204
  let c3_i32_205 : BitVec 32 := 3#32
  let v323 : BitVec 1 := Scalar.cmpi .sle v322 c3_i32_205
  let v324 : BitVec 1 := Scalar.andi v321 v323
  let v325 : BitVec 32 := Scalar.extui v324
  let c0_i32_206 : BitVec 32 := 0#32
  let v326 : BitVec 1 := Scalar.cmpi .ne v325 c0_i32_206
  v326

def k0_off83 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_335 : BitVec 32 := 0#32
  ![v315.toNat, 0]
def k0_cond77 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_207 : BitVec 32 := 1#32
  let v327 : BitVec 1 := Scalar.cmpi .sge v5 c1_i32_207
  let v328 : BitVec 32 := Scalar.extui v327
  let c0_i32_208 : BitVec 32 := 0#32
  let v329 : BitVec 1 := Scalar.cmpi .ne v328 c0_i32_208
  v329

def k0_off84 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_335 : BitVec 32 := 0#32
  ![v315.toNat, 0]
def k0_cond78 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_209 : BitVec 32 := 2#32
  let v330 : BitVec 1 := Scalar.cmpi .sle v5 c2_i32_209
  let v331 : BitVec 32 := Scalar.extui v330
  let c0_i32_210 : BitVec 32 := 0#32
  let v332 : BitVec 1 := Scalar.cmpi .ne v331 c0_i32_210
  v332

def k0_off85 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_335 : BitVec 32 := 0#32
  ![v315.toNat, 0]
def k0_cond79 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_211 : BitVec 32 := 2#32
  let v333 : BitVec 1 := Scalar.cmpi .sle v5 c2_i32_211
  let c0_i32_212 : BitVec 32 := 0#32
  let v334 : BitVec 1 := Scalar.cmpi .sge v5 c0_i32_212
  let v335 : BitVec 1 := Scalar.andi v333 v334
  let v336 : BitVec 32 := Scalar.extui v335
  let c0_i32_213 : BitVec 32 := 0#32
  let v337 : BitVec 1 := Scalar.cmpi .ne v336 c0_i32_213
  v337

def k0_off86 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_335 : BitVec 32 := 0#32
  ![v315.toNat, 0]
def k0_cond80 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_214 : BitVec 32 := 1#32
  let v338 : BitVec 1 := Scalar.cmpi .sge v5 c1_i32_214
  let c0_i32_215 : BitVec 32 := 0#32
  let v339 : BitVec 32 := Scalar.addi v5 c0_i32_215
  let c3_i32_216 : BitVec 32 := 3#32
  let v340 : BitVec 1 := Scalar.cmpi .sle v339 c3_i32_216
  let v341 : BitVec 1 := Scalar.andi v338 v340
  let v342 : BitVec 32 := Scalar.extui v341
  let c0_i32_217 : BitVec 32 := 0#32
  let v343 : BitVec 1 := Scalar.cmpi .ne v342 c0_i32_217
  v343

def k0_off87 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_335 : BitVec 32 := 0#32
  ![v315.toNat, 0]
def k0_cond81 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_218 : BitVec 32 := 1#32
  let v344 : BitVec 1 := Scalar.cmpi .sge v5 c1_i32_218
  let v345 : BitVec 32 := Scalar.extui v344
  let c0_i32_219 : BitVec 32 := 0#32
  let v346 : BitVec 1 := Scalar.cmpi .ne v345 c0_i32_219
  v346

def k0_off88 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_335 : BitVec 32 := 0#32
  ![v315.toNat, 0]
def k0_cond82 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_220 : BitVec 32 := 2#32
  let v347 : BitVec 1 := Scalar.cmpi .sle v5 c2_i32_220
  let v348 : BitVec 32 := Scalar.extui v347
  let c0_i32_221 : BitVec 32 := 0#32
  let v349 : BitVec 1 := Scalar.cmpi .ne v348 c0_i32_221
  v349

def k0_off89 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_335 : BitVec 32 := 0#32
  ![v315.toNat, 0]
def k0_cond83 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_222 : BitVec 32 := 2#32
  let v350 : BitVec 1 := Scalar.cmpi .sle v5 c2_i32_222
  let c0_i32_223 : BitVec 32 := 0#32
  let v351 : BitVec 1 := Scalar.cmpi .sge v5 c0_i32_223
  let v352 : BitVec 1 := Scalar.andi v350 v351
  let v353 : BitVec 32 := Scalar.extui v352
  let c0_i32_224 : BitVec 32 := 0#32
  let v354 : BitVec 1 := Scalar.cmpi .ne v353 c0_i32_224
  v354

def k0_off90 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_335 : BitVec 32 := 0#32
  ![v315.toNat, 0]
def k0_cond84 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_225 : BitVec 32 := 1#32
  let v355 : BitVec 1 := Scalar.cmpi .sge v5 c1_i32_225
  let c0_i32_226 : BitVec 32 := 0#32
  let v356 : BitVec 32 := Scalar.addi v5 c0_i32_226
  let c3_i32_227 : BitVec 32 := 3#32
  let v357 : BitVec 1 := Scalar.cmpi .sle v356 c3_i32_227
  let v358 : BitVec 1 := Scalar.andi v355 v357
  let v359 : BitVec 32 := Scalar.extui v358
  let c0_i32_228 : BitVec 32 := 0#32
  let v360 : BitVec 1 := Scalar.cmpi .ne v359 c0_i32_228
  v360

def k0_off91 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_335 : BitVec 32 := 0#32
  ![v315.toNat, 0]
def k0_cond85 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_229 : BitVec 32 := 1#32
  let v361 : BitVec 1 := Scalar.cmpi .sge v5 c1_i32_229
  let v362 : BitVec 32 := Scalar.extui v361
  let c0_i32_230 : BitVec 32 := 0#32
  let v363 : BitVec 1 := Scalar.cmpi .ne v362 c0_i32_230
  v363

def k0_off92 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_335 : BitVec 32 := 0#32
  ![v315.toNat, 0]
def k0_cond86 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_231 : BitVec 32 := 2#32
  let v364 : BitVec 1 := Scalar.cmpi .sle v5 c2_i32_231
  let v365 : BitVec 32 := Scalar.extui v364
  let c0_i32_232 : BitVec 32 := 0#32
  let v366 : BitVec 1 := Scalar.cmpi .ne v365 c0_i32_232
  v366

def k0_off93 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond87 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_233 : BitVec 32 := 2#32
  let v367 : BitVec 1 := Scalar.cmpi .sle v5 c2_i32_233
  let c0_i32_234 : BitVec 32 := 0#32
  let v368 : BitVec 1 := Scalar.cmpi .sge v5 c0_i32_234
  let v369 : BitVec 1 := Scalar.andi v367 v368
  let v370 : BitVec 32 := Scalar.extui v369
  let c0_i32_235 : BitVec 32 := 0#32
  let v371 : BitVec 1 := Scalar.cmpi .ne v370 c0_i32_235
  v371

def k0_off94 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_335 : BitVec 32 := 0#32
  ![v315.toNat, 0]
def k0_cond88 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_236 : BitVec 32 := 1#32
  let v372 : BitVec 1 := Scalar.cmpi .sge v5 c1_i32_236
  let c0_i32_237 : BitVec 32 := 0#32
  let v373 : BitVec 32 := Scalar.addi v5 c0_i32_237
  let c3_i32_238 : BitVec 32 := 3#32
  let v374 : BitVec 1 := Scalar.cmpi .sle v373 c3_i32_238
  let v375 : BitVec 1 := Scalar.andi v372 v374
  let v376 : BitVec 32 := Scalar.extui v375
  let c0_i32_239 : BitVec 32 := 0#32
  let v377 : BitVec 1 := Scalar.cmpi .ne v376 c0_i32_239
  v377

def k0_off95 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_335 : BitVec 32 := 0#32
  ![v315.toNat, 0]
def k0_cond89 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_240 : BitVec 32 := 1#32
  let v378 : BitVec 1 := Scalar.cmpi .sge v5 c1_i32_240
  let v379 : BitVec 32 := Scalar.extui v378
  let c0_i32_241 : BitVec 32 := 0#32
  let v380 : BitVec 1 := Scalar.cmpi .ne v379 c0_i32_241
  v380

def k0_off96 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond90 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_242 : BitVec 32 := 2#32
  let v381 : BitVec 1 := Scalar.cmpi .sle v5 c2_i32_242
  let v382 : BitVec 32 := Scalar.extui v381
  let c0_i32_243 : BitVec 32 := 0#32
  let v383 : BitVec 1 := Scalar.cmpi .ne v382 c0_i32_243
  v383

def k0_off97 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond91 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_244 : BitVec 32 := 2#32
  let v384 : BitVec 1 := Scalar.cmpi .sle v5 c2_i32_244
  let c1_i32_245 : BitVec 32 := 1#32
  let v385 : BitVec 1 := Scalar.cmpi .sge v5 c1_i32_245
  let v386 : BitVec 1 := Scalar.andi v384 v385
  let v387 : BitVec 32 := Scalar.extui v386
  let c0_i32_246 : BitVec 32 := 0#32
  let v388 : BitVec 1 := Scalar.cmpi .ne v387 c0_i32_246
  v388

def k0_off98 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_335 : BitVec 32 := 0#32
  ![v315.toNat, 0]
def k0_cond92 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_247 : BitVec 32 := 1#32
  let v389 : BitVec 1 := Scalar.cmpi .sge v5 c1_i32_247
  let c1_i32_248 : BitVec 32 := 1#32
  let v390 : BitVec 32 := Scalar.addi v5 c1_i32_248
  let c3_i32_249 : BitVec 32 := 3#32
  let v391 : BitVec 1 := Scalar.cmpi .sle v390 c3_i32_249
  let v392 : BitVec 1 := Scalar.andi v389 v391
  let v393 : BitVec 32 := Scalar.extui v392
  let c0_i32_250 : BitVec 32 := 0#32
  let v394 : BitVec 1 := Scalar.cmpi .ne v393 c0_i32_250
  v394

def k0_off99 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_335 : BitVec 32 := 0#32
  ![v315.toNat, 0]
def k0_cond93 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_251 : BitVec 32 := 2#32
  let v395 : BitVec 1 := Scalar.cmpi .sge v5 c2_i32_251
  let v396 : BitVec 32 := Scalar.extui v395
  let c0_i32_252 : BitVec 32 := 0#32
  let v397 : BitVec 1 := Scalar.cmpi .ne v396 c0_i32_252
  v397

def k0_off100 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond94 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_253 : BitVec 32 := 1#32
  let v398 : BitVec 1 := Scalar.cmpi .sle v5 c1_i32_253
  let v399 : BitVec 32 := Scalar.extui v398
  let c0_i32_254 : BitVec 32 := 0#32
  let v400 : BitVec 1 := Scalar.cmpi .ne v399 c0_i32_254
  v400

def k0_off101 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond95 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_255 : BitVec 32 := 2#32
  let v401 : BitVec 1 := Scalar.cmpi .sle v5 c2_i32_255
  let c1_i32_256 : BitVec 32 := 1#32
  let v402 : BitVec 1 := Scalar.cmpi .sge v5 c1_i32_256
  let v403 : BitVec 1 := Scalar.andi v401 v402
  let v404 : BitVec 32 := Scalar.extui v403
  let c0_i32_257 : BitVec 32 := 0#32
  let v405 : BitVec 1 := Scalar.cmpi .ne v404 c0_i32_257
  v405

def k0_off102 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond96 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_258 : BitVec 32 := 1#32
  let v406 : BitVec 1 := Scalar.cmpi .sge v5 c1_i32_258
  let c1_i32_259 : BitVec 32 := 1#32
  let v407 : BitVec 32 := Scalar.addi v5 c1_i32_259
  let c3_i32_260 : BitVec 32 := 3#32
  let v408 : BitVec 1 := Scalar.cmpi .sle v407 c3_i32_260
  let v409 : BitVec 1 := Scalar.andi v406 v408
  let v410 : BitVec 32 := Scalar.extui v409
  let c0_i32_261 : BitVec 32 := 0#32
  let v411 : BitVec 1 := Scalar.cmpi .ne v410 c0_i32_261
  v411

def k0_off103 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond97 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_262 : BitVec 32 := 2#32
  let v412 : BitVec 1 := Scalar.cmpi .sge v5 c2_i32_262
  let v413 : BitVec 32 := Scalar.extui v412
  let c0_i32_263 : BitVec 32 := 0#32
  let v414 : BitVec 1 := Scalar.cmpi .ne v413 c0_i32_263
  v414

def k0_off104 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond98 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_264 : BitVec 32 := 1#32
  let v415 : BitVec 1 := Scalar.cmpi .sle v5 c1_i32_264
  let v416 : BitVec 32 := Scalar.extui v415
  let c0_i32_265 : BitVec 32 := 0#32
  let v417 : BitVec 1 := Scalar.cmpi .ne v416 c0_i32_265
  v417

def k0_off105 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond99 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_266 : BitVec 32 := 2#32
  let v418 : BitVec 1 := Scalar.cmpi .sle v5 c2_i32_266
  let c1_i32_267 : BitVec 32 := 1#32
  let v419 : BitVec 1 := Scalar.cmpi .sge v5 c1_i32_267
  let v420 : BitVec 1 := Scalar.andi v418 v419
  let v421 : BitVec 32 := Scalar.extui v420
  let c0_i32_268 : BitVec 32 := 0#32
  let v422 : BitVec 1 := Scalar.cmpi .ne v421 c0_i32_268
  v422

def k0_off106 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond100 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_269 : BitVec 32 := 1#32
  let v423 : BitVec 1 := Scalar.cmpi .sge v5 c1_i32_269
  let c1_i32_270 : BitVec 32 := 1#32
  let v424 : BitVec 32 := Scalar.addi v5 c1_i32_270
  let c3_i32_271 : BitVec 32 := 3#32
  let v425 : BitVec 1 := Scalar.cmpi .sle v424 c3_i32_271
  let v426 : BitVec 1 := Scalar.andi v423 v425
  let v427 : BitVec 32 := Scalar.extui v426
  let c0_i32_272 : BitVec 32 := 0#32
  let v428 : BitVec 1 := Scalar.cmpi .ne v427 c0_i32_272
  v428

def k0_off107 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond101 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_273 : BitVec 32 := 2#32
  let v429 : BitVec 1 := Scalar.cmpi .sge v5 c2_i32_273
  let v430 : BitVec 32 := Scalar.extui v429
  let c0_i32_274 : BitVec 32 := 0#32
  let v431 : BitVec 1 := Scalar.cmpi .ne v430 c0_i32_274
  v431

def k0_off108 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond102 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_275 : BitVec 32 := 1#32
  let v432 : BitVec 1 := Scalar.cmpi .sle v5 c1_i32_275
  let v433 : BitVec 32 := Scalar.extui v432
  let c0_i32_276 : BitVec 32 := 0#32
  let v434 : BitVec 1 := Scalar.cmpi .ne v433 c0_i32_276
  v434

def k0_off109 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond103 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_277 : BitVec 32 := 2#32
  let v435 : BitVec 1 := Scalar.cmpi .sle v5 c2_i32_277
  let c1_i32_278 : BitVec 32 := 1#32
  let v436 : BitVec 1 := Scalar.cmpi .sge v5 c1_i32_278
  let v437 : BitVec 1 := Scalar.andi v435 v436
  let v438 : BitVec 32 := Scalar.extui v437
  let c0_i32_279 : BitVec 32 := 0#32
  let v439 : BitVec 1 := Scalar.cmpi .ne v438 c0_i32_279
  v439

def k0_off110 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond104 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_280 : BitVec 32 := 1#32
  let v440 : BitVec 1 := Scalar.cmpi .sge v5 c1_i32_280
  let c1_i32_281 : BitVec 32 := 1#32
  let v441 : BitVec 32 := Scalar.addi v5 c1_i32_281
  let c3_i32_282 : BitVec 32 := 3#32
  let v442 : BitVec 1 := Scalar.cmpi .sle v441 c3_i32_282
  let v443 : BitVec 1 := Scalar.andi v440 v442
  let v444 : BitVec 32 := Scalar.extui v443
  let c0_i32_283 : BitVec 32 := 0#32
  let v445 : BitVec 1 := Scalar.cmpi .ne v444 c0_i32_283
  v445

def k0_off111 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond105 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_284 : BitVec 32 := 2#32
  let v446 : BitVec 1 := Scalar.cmpi .sge v5 c2_i32_284
  let v447 : BitVec 32 := Scalar.extui v446
  let c0_i32_285 : BitVec 32 := 0#32
  let v448 : BitVec 1 := Scalar.cmpi .ne v447 c0_i32_285
  v448

def k0_off112 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond106 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_286 : BitVec 32 := 1#32
  let v449 : BitVec 1 := Scalar.cmpi .sle v5 c1_i32_286
  let v450 : BitVec 32 := Scalar.extui v449
  let c0_i32_287 : BitVec 32 := 0#32
  let v451 : BitVec 1 := Scalar.cmpi .ne v450 c0_i32_287
  v451

def k0_off113 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond107 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_288 : BitVec 32 := 2#32
  let v452 : BitVec 1 := Scalar.cmpi .sle v5 c2_i32_288
  let c2_i32_289 : BitVec 32 := 2#32
  let v453 : BitVec 1 := Scalar.cmpi .sge v5 c2_i32_289
  let v454 : BitVec 1 := Scalar.andi v452 v453
  let v455 : BitVec 32 := Scalar.extui v454
  let c0_i32_290 : BitVec 32 := 0#32
  let v456 : BitVec 1 := Scalar.cmpi .ne v455 c0_i32_290
  v456

def k0_off114 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond108 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_291 : BitVec 32 := 1#32
  let v457 : BitVec 1 := Scalar.cmpi .sge v5 c1_i32_291
  let c2_i32_292 : BitVec 32 := 2#32
  let v458 : BitVec 32 := Scalar.addi v5 c2_i32_292
  let c3_i32_293 : BitVec 32 := 3#32
  let v459 : BitVec 1 := Scalar.cmpi .sle v458 c3_i32_293
  let v460 : BitVec 1 := Scalar.andi v457 v459
  let v461 : BitVec 32 := Scalar.extui v460
  let c0_i32_294 : BitVec 32 := 0#32
  let v462 : BitVec 1 := Scalar.cmpi .ne v461 c0_i32_294
  v462

def k0_off115 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond109 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_295 : BitVec 32 := 3#32
  let v463 : BitVec 1 := Scalar.cmpi .sge v5 c3_i32_295
  let v464 : BitVec 32 := Scalar.extui v463
  let c0_i32_296 : BitVec 32 := 0#32
  let v465 : BitVec 1 := Scalar.cmpi .ne v464 c0_i32_296
  v465

def k0_off116 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_335 : BitVec 32 := 0#32
  ![v315.toNat, 0]
def k0_cond110 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_297 : BitVec 32 := 0#32
  let v466 : BitVec 1 := Scalar.cmpi .sle v5 c0_i32_297
  let v467 : BitVec 32 := Scalar.extui v466
  let c0_i32_298 : BitVec 32 := 0#32
  let v468 : BitVec 1 := Scalar.cmpi .ne v467 c0_i32_298
  v468

def k0_off117 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond111 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_299 : BitVec 32 := 2#32
  let v469 : BitVec 1 := Scalar.cmpi .sle v5 c2_i32_299
  let c2_i32_300 : BitVec 32 := 2#32
  let v470 : BitVec 1 := Scalar.cmpi .sge v5 c2_i32_300
  let v471 : BitVec 1 := Scalar.andi v469 v470
  let v472 : BitVec 32 := Scalar.extui v471
  let c0_i32_301 : BitVec 32 := 0#32
  let v473 : BitVec 1 := Scalar.cmpi .ne v472 c0_i32_301
  v473

def k0_off118 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond112 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_302 : BitVec 32 := 1#32
  let v474 : BitVec 1 := Scalar.cmpi .sge v5 c1_i32_302
  let c2_i32_303 : BitVec 32 := 2#32
  let v475 : BitVec 32 := Scalar.addi v5 c2_i32_303
  let c3_i32_304 : BitVec 32 := 3#32
  let v476 : BitVec 1 := Scalar.cmpi .sle v475 c3_i32_304
  let v477 : BitVec 1 := Scalar.andi v474 v476
  let v478 : BitVec 32 := Scalar.extui v477
  let c0_i32_305 : BitVec 32 := 0#32
  let v479 : BitVec 1 := Scalar.cmpi .ne v478 c0_i32_305
  v479

def k0_off119 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond113 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_306 : BitVec 32 := 3#32
  let v480 : BitVec 1 := Scalar.cmpi .sge v5 c3_i32_306
  let v481 : BitVec 32 := Scalar.extui v480
  let c0_i32_307 : BitVec 32 := 0#32
  let v482 : BitVec 1 := Scalar.cmpi .ne v481 c0_i32_307
  v482

def k0_off120 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond114 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_308 : BitVec 32 := 0#32
  let v483 : BitVec 1 := Scalar.cmpi .sle v5 c0_i32_308
  let v484 : BitVec 32 := Scalar.extui v483
  let c0_i32_309 : BitVec 32 := 0#32
  let v485 : BitVec 1 := Scalar.cmpi .ne v484 c0_i32_309
  v485

def k0_off121 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond115 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_310 : BitVec 32 := 2#32
  let v486 : BitVec 1 := Scalar.cmpi .sle v5 c2_i32_310
  let c2_i32_311 : BitVec 32 := 2#32
  let v487 : BitVec 1 := Scalar.cmpi .sge v5 c2_i32_311
  let v488 : BitVec 1 := Scalar.andi v486 v487
  let v489 : BitVec 32 := Scalar.extui v488
  let c0_i32_312 : BitVec 32 := 0#32
  let v490 : BitVec 1 := Scalar.cmpi .ne v489 c0_i32_312
  v490

def k0_off122 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond116 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_313 : BitVec 32 := 1#32
  let v491 : BitVec 1 := Scalar.cmpi .sge v5 c1_i32_313
  let c2_i32_314 : BitVec 32 := 2#32
  let v492 : BitVec 32 := Scalar.addi v5 c2_i32_314
  let c3_i32_315 : BitVec 32 := 3#32
  let v493 : BitVec 1 := Scalar.cmpi .sle v492 c3_i32_315
  let v494 : BitVec 1 := Scalar.andi v491 v493
  let v495 : BitVec 32 := Scalar.extui v494
  let c0_i32_316 : BitVec 32 := 0#32
  let v496 : BitVec 1 := Scalar.cmpi .ne v495 c0_i32_316
  v496

def k0_off123 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond117 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_317 : BitVec 32 := 3#32
  let v497 : BitVec 1 := Scalar.cmpi .sge v5 c3_i32_317
  let v498 : BitVec 32 := Scalar.extui v497
  let c0_i32_318 : BitVec 32 := 0#32
  let v499 : BitVec 1 := Scalar.cmpi .ne v498 c0_i32_318
  v499

def k0_off124 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond118 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_319 : BitVec 32 := 0#32
  let v500 : BitVec 1 := Scalar.cmpi .sle v5 c0_i32_319
  let v501 : BitVec 32 := Scalar.extui v500
  let c0_i32_320 : BitVec 32 := 0#32
  let v502 : BitVec 1 := Scalar.cmpi .ne v501 c0_i32_320
  v502

def k0_off125 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond119 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_321 : BitVec 32 := 2#32
  let v503 : BitVec 1 := Scalar.cmpi .sle v5 c2_i32_321
  let c2_i32_322 : BitVec 32 := 2#32
  let v504 : BitVec 1 := Scalar.cmpi .sge v5 c2_i32_322
  let v505 : BitVec 1 := Scalar.andi v503 v504
  let v506 : BitVec 32 := Scalar.extui v505
  let c0_i32_323 : BitVec 32 := 0#32
  let v507 : BitVec 1 := Scalar.cmpi .ne v506 c0_i32_323
  v507

def k0_off126 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond120 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_324 : BitVec 32 := 1#32
  let v508 : BitVec 1 := Scalar.cmpi .sge v5 c1_i32_324
  let c2_i32_325 : BitVec 32 := 2#32
  let v509 : BitVec 32 := Scalar.addi v5 c2_i32_325
  let c3_i32_326 : BitVec 32 := 3#32
  let v510 : BitVec 1 := Scalar.cmpi .sle v509 c3_i32_326
  let v511 : BitVec 1 := Scalar.andi v508 v510
  let v512 : BitVec 32 := Scalar.extui v511
  let c0_i32_327 : BitVec 32 := 0#32
  let v513 : BitVec 1 := Scalar.cmpi .ne v512 c0_i32_327
  v513

def k0_off127 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond121 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_328 : BitVec 32 := 3#32
  let v514 : BitVec 1 := Scalar.cmpi .sge v5 c3_i32_328
  let v515 : BitVec 32 := Scalar.extui v514
  let c0_i32_329 : BitVec 32 := 0#32
  let v516 : BitVec 1 := Scalar.cmpi .ne v515 c0_i32_329
  v516

def k0_off128 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
def k0_cond122 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_330 : BitVec 32 := 0#32
  let v517 : BitVec 1 := Scalar.cmpi .sle v5 c0_i32_330
  let v518 : BitVec 32 := Scalar.extui v517
  let c0_i32_331 : BitVec 32 := 0#32
  let v519 : BitVec 1 := Scalar.cmpi .ne v518 c0_i32_331
  v519

def k0_off129 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_199 : BitVec 32 := 1024#32
  let v315 : BitVec 32 := Scalar.muli v5 c1024_i32_199
  let c0_i32_334 : BitVec 32 := 0#32
  ![v315.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩

abbrev nBuf : Space → Nat
  | .hbm => 1
  | .vmem => 0
  | .smem => 0
  | _ => 0

abbrev bufTy : (tb : Table) → Fin (tcTables nBuf tb) → BufTy
  | .hbm, ⟨0, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
/-
# The devices, the links of the line, and the blocks of rows they carry

A device `c` of the 2 × 4 × 4 mesh has coordinates `x = c / 16`, `y = (c / 4) % 4`, `z = c % 4`. A LINK `i` is one of the
24 chunks a device passes along `y`: 8 in each of the three steps, 4 sub-chunks of 128 rows in each of the two directions.
Rows are counted in chunks of 128: the result has 32 of them, a device's own block 8.
-/
module

public import proofs.«01_k».proof.Proof.Gen.KernelIdeal

@[expose] public section

noncomputable section

namespace Cert.Gather

open Cert.KernelIdeal Cert.KernelIdeal.Gen
open Idealize.ShloMosaic

abbrev Dv : Type := Dev nD

abbrev xOf (c : Dv) : ℕ := c.val / 16
abbrev yOf (c : Dv) : ℕ := c.val / 4 % 4
abbrev zOf (c : Dv) : ℕ := c.val % 4

/-- A link's direction (0: towards larger `y`), its step along the line and its sub-chunk. -/
abbrev dir (i : Fin 24) : ℕ := i.val % 2
abbrev stp (i : Fin 24) : ℕ := i.val / 8
abbrev sub (i : Fin 24) : ℕ := i.val / 2 % 4

set_option backward.proofsInPublic true in
/-- The next device in direction `d`, the one before it, and the partner in the other half. -/
def nxt (d : ℕ) (c : Dv) : Dv := ⟨(c.val + if d = 0 then 4 else 28) % 32, Nat.mod_lt _ (by decide)⟩
set_option backward.proofsInPublic true in
def prv (d : ℕ) (c : Dv) : Dv := ⟨(c.val + if d = 0 then 28 else 4) % 32, Nat.mod_lt _ (by decide)⟩
set_option backward.proofsInPublic true in
def par (c : Dv) : Dv := ⟨(c.val + 16) % 32, Nat.mod_lt _ (by decide)⟩

theorem prv_nxt (d : ℕ) (c : Dv) : prv d (nxt d c) = c := by
  apply Fin.ext; have hc : c.val < 32 := c.isLt; simp only [nxt, prv]; split <;> omega
theorem nxt_prv (d : ℕ) (c : Dv) : nxt d (prv d c) = c := by
  apply Fin.ext; have hc : c.val < 32 := c.isLt; simp only [nxt, prv]; split <;> omega
theorem par_par (c : Dv) : par (par c) = c := by
  apply Fin.ext; have hc : c.val < 32 := c.isLt; simp only [par]; omega

theorem nxt_one (c : Dv) : nxt 1 (nxt 0 c) = c := prv_nxt 0 c
theorem nxt_zero (c : Dv) : nxt 0 (nxt 1 c) = c := prv_nxt 1 c

/-- The step in direction `d` and the exchange of partners as permutations of the devices. -/
def nxtE (d : ℕ) : Dv ≃ Dv := ⟨nxt d, prv d, prv_nxt d, nxt_prv d⟩
def parE : Dv ≃ Dv := ⟨par, par, par_par, par_par⟩

/-- How many devices lie before `c` in direction `d`. -/
abbrev pos (d : ℕ) (c : Dv) : ℕ := if d = 0 then yOf c else 3 - yOf c

/-- Device `c` sends on link `i`; device `c` receives on link `i`. -/
abbrev rs (c : Dv) (i : Fin 24) : Prop := pos (dir i) c ≤ 2 ∧ stp i ≤ pos (dir i) c
abbrev rr (c : Dv) (i : Fin 24) : Prop := stp i + 1 ≤ pos (dir i) c

/-- The `y` coordinate of the device whose rows arrive at `c` on link `i`. -/
abbrev org (c : Dv) (i : Fin 24) : ℕ := if dir i = 0 then yOf c - 1 - stp i else yOf c + 1 + stp i

/-- The chunk arriving at `c` on link `i`, from the line and from the partner; and the chunk of `c`'s own block of `x`
    that goes out in the first step. -/
abbrev rk (c : Dv) (i : Fin 24) : ℕ := org c i * 8 + xOf c * 4 + sub i
abbrev pk (c : Dv) (i : Fin 24) : ℕ := org c i * 8 + (1 - xOf c) * 4 + sub i
abbrev xk (c : Dv) (i : Fin 24) : ℕ := xOf c * 4 + sub i

/-- A device sends on a link exactly when the next device receives on it. -/
theorem rs_iff (c : Dv) (i : Fin 24) : rs c i ↔ rr (nxt (dir i) c) i := by
  have hc : c.val < 32 := c.isLt
  simp only [rs, rr, pos, nxt, yOf]
  rcases Nat.mod_two_eq_zero_or_one i.val with h | h <;> simp only [dir, stp, h, if_true, one_ne_zero, if_false] <;> omega

theorem rr_iff (c : Dv) (i : Fin 24) : rr c i ↔ rs (prv (dir i) c) i := by rw [rs_iff, nxt_prv]

theorem rr_par (c : Dv) (i : Fin 24) : rr (par c) i ↔ rr c i := by
  have hc : c.val < 32 := c.isLt
  have hy : yOf (par c) = yOf c := by simp only [par, yOf]; omega
  simp only [rr, pos, hy]

theorem xOf_lt (c : Dv) : xOf c < 2 := by have hc : c.val < 32 := c.isLt; simp only [xOf]; omega
theorem yOf_lt (c : Dv) : yOf c < 4 := Nat.mod_lt _ (by decide)

/-- The previous step's link of the same direction and sub-chunk. -/
abbrev back (i : Fin 24) : Fin 24 := ⟨i.val - 8, by omega⟩

/-- What is sent in a later step has been received in the step before. -/
theorem rr_back {c : Dv} {i : Fin 24} (h : rs c i) (hi : 8 ≤ i.val) : rr c (back i) := by
  have hs : stp (back i) + 1 = stp i := by simp only [stp, back]; omega
  have hd : dir (back i) = dir i := by simp only [dir, back]; omega
  simp only [rs, rr, hs, hd] at *; omega

theorem xOf_nxt {c : Dv} {i : Fin 24} (h : rs c i) : xOf (nxt (dir i) c) = xOf c := by
  have hc : c.val < 32 := c.isLt
  by_cases h0 : dir i = 0 <;> simp only [rs, pos, yOf, nxt, xOf, h0, if_true, if_false] at h ⊢ <;> omega

theorem yOf_nxt {c : Dv} {i : Fin 24} (h : rs c i) :
    (dir i = 0 → yOf (nxt (dir i) c) = yOf c + 1) ∧ (dir i ≠ 0 → yOf (nxt (dir i) c) + 1 = yOf c) := by
  have hc : c.val < 32 := c.isLt
  constructor <;> intro h0 <;> simp only [rs, pos, yOf, nxt, h0, if_true, if_false] at h ⊢ <;> omega

/-- A chunk is passed on at the same rows. -/
theorem rk_back {c : Dv} {i : Fin 24} (h : rs c i) (hi : 8 ≤ i.val) : rk (nxt (dir i) c) i = rk c (back i) := by
  have hs : stp (back i) + 1 = stp i := by simp only [stp, back]; omega
  have hd : dir (back i) = dir i := by simp only [dir, back]; omega
  have hj : sub (back i) = sub i := by simp only [sub, back]; omega
  have hc : c.val < 32 := c.isLt
  have hx := xOf_nxt h
  have hy := yOf_nxt h
  simp only [rk, org, hx, hd, hj]
  split
  · rename_i h0; rw [hy.1 h0]; omega
  · rename_i h0; have := hy.2 h0; have h4 := yOf_lt c; simp only [rs, pos, h0, if_false] at h; omega

/-- In the first step the chunk lands at its sender's own rows. -/
theorem rk_first {c : Dv} {i : Fin 24} (h : rs c i) (hi : i.val < 8) : rk (nxt (dir i) c) i = yOf c * 8 + xk c i := by
  have hs : stp i = 0 := by simp only [stp]; omega
  have hc : c.val < 32 := c.isLt
  have hx := xOf_nxt h
  have hy := yOf_nxt h
  simp only [rk, org, hx, xk, hs]
  split
  · rename_i h0; rw [hy.1 h0]; omega
  · rename_i h0; have := hy.2 h0; have h4 := yOf_lt c; simp only [rs, pos, h0, if_false] at h; omega

/-- The partner keeps the forwarded chunk at the same rows. -/
theorem pk_par (c : Dv) (i : Fin 24) : pk (par c) i = rk c i := by
  have hc : c.val < 32 := c.isLt
  have hy : yOf (par c) = yOf c := by simp only [par, yOf]; omega
  have hx : 1 - xOf (par c) = xOf c := by simp only [par, xOf]; omega
  simp only [pk, rk, org, hy, hx]

/-- A chunk that arrives is another device's, and lies in the result. -/
theorem org_lt {c : Dv} {i : Fin 24} (h : rr c i) : org c i < 4 ∧ org c i ≠ yOf c := by
  have h4 := yOf_lt c
  simp only [rr, pos, org] at *; split at h <;> simp_all <;> omega

theorem sub_lt (i : Fin 24) : sub i < 4 := Nat.mod_lt _ (by decide)

/-- Two links of one device that bring the same chunk are one link. -/
theorem org_inj {c : Dv} {i i' : Fin 24} (h : rr c i) (h' : rr c i') (ho : org c i = org c i') (hj : sub i = sub i') : i = i' := by
  have h4 := yOf_lt c
  apply Fin.ext
  simp only [rr, pos, org, dir, stp, sub] at h h' ho hj
  rcases Nat.mod_two_eq_zero_or_one i.val with e | e <;> rcases Nat.mod_two_eq_zero_or_one i'.val with e' | e' <;>
    simp only [e, e', if_true, one_ne_zero, if_false] at h h' ho <;> omega

/-- Every block but one's own, at every sub-chunk, arrives on some link. -/
theorem org_surj (c : Dv) {o j : ℕ} (ho : o < 4) (hne : o ≠ yOf c) (hj : j < 4) : ∃ i, rr c i ∧ org c i = o ∧ sub i = j := by
  have h4 := yOf_lt c
  by_cases h : o < yOf c
  · refine ⟨⟨(yOf c - 1 - o) * 8 + j * 2, by omega⟩, ?_⟩
    have e1 : ((yOf c - 1 - o) * 8 + j * 2) % 2 = 0 := by omega
    have e2 : ((yOf c - 1 - o) * 8 + j * 2) / 8 = yOf c - 1 - o := by omega
    have e3 : ((yOf c - 1 - o) * 8 + j * 2) / 2 % 4 = j := by omega
    simp only [rr, pos, org, dir, stp, sub, e1, e2, e3, if_true]
    exact ⟨by omega, by omega, trivial⟩
  · refine ⟨⟨(o - yOf c - 1) * 8 + j * 2 + 1, by omega⟩, ?_⟩
    have e1 : ((o - yOf c - 1) * 8 + j * 2 + 1) % 2 = 1 := by omega
    have e2 : ((o - yOf c - 1) * 8 + j * 2 + 1) / 8 = o - yOf c - 1 := by omega
    have e3 : ((o - yOf c - 1) * 8 + j * 2 + 1) / 2 % 4 = j := by omega
    simp only [rr, pos, org, dir, stp, sub, e1, e2, e3, one_ne_zero, if_false]
    exact ⟨by omega, by omega, trivial⟩

/-! ## Whose rows the result holds where -/

set_option backward.proofsInPublic true in
/-- The device the gathered row `r` of device `c` came from: `c` itself for its own block, else the device of the line
    that holds the block, in the half of the row. -/
def srcDev (c : Dv) (r : ℕ) : Dv :=
  if r / 1024 = yOf c then c else ⟨(16 * (r % 1024 / 512) + 4 * (r / 1024) + zOf c) % 32, Nat.mod_lt _ (by decide)⟩

/-- Along the line the sender and the receiver of a chunk agree on where its rows came from. -/
theorem srcDev_line {c : Dv} {i : Fin 24} (h : rs c i) {r : ℕ} (hr : r / 128 = rk (nxt (dir i) c) i) :
    srcDev c r = srcDev (nxt (dir i) c) r := by
  have hn := (org_lt ((rs_iff c i).mp h))
  have hxl := xOf_lt (nxt (dir i) c)
  have hsl := sub_lt i
  have hc : c.val < 32 := c.isLt
  have hx := xOf_nxt h
  have hz : zOf (nxt (dir i) c) = zOf c := by simp only [nxt, zOf]; split <;> omega
  have e1 : r / 1024 = org (nxt (dir i) c) i := by simp only [rk] at hr; omega
  have e2 : r % 1024 / 512 = xOf c := by rw [hx] at hxl; simp only [rk, hx] at hr; omega
  simp only [srcDev, e1, e2, hz, if_neg hn.2]
  split
  · rename_i h0; apply Fin.ext; simp only [h0]; simp only [xOf, yOf, zOf]; omega
  · rfl

/-- And so do partners, on a chunk one forwards to the other. -/
theorem srcDev_par {c : Dv} {i : Fin 24} (h : rr c i) {r : ℕ} (hr : r / 128 = rk c i) : srcDev c r = srcDev (par c) r := by
  have hn := org_lt h
  have hxl := xOf_lt c
  have hsl := sub_lt i
  have hc : c.val < 32 := c.isLt
  have hy : yOf (par c) = yOf c := by simp only [par, yOf]; omega
  have hz : zOf (par c) = zOf c := by simp only [par, zOf]; omega
  have e1 : r / 1024 = org c i := by simp only [rk] at hr; omega
  simp only [srcDev, e1, hy, hz, if_neg hn.2]

/-- In the first step the rows that land are the sender's own. -/
theorem srcDev_first {c : Dv} {i : Fin 24} (h : rs c i) (hi : i.val < 8) {r : ℕ} (hr : r / 128 = rk (nxt (dir i) c) i) :
    srcDev (nxt (dir i) c) r = c := by
  have hxl := xOf_lt c
  have hsl := sub_lt i
  rw [← srcDev_line h hr, srcDev, if_pos]
  rw [rk_first h hi] at hr
  simp only [xk] at hr; omega

end Cert.Gather
-- ==== Proof.Chunks.lean ====
/-
# Chunks of rows, as views and as resources

The views the kernel copies are chunks of 128 rows, of the staged block `x` or of the staged result. Here: the elements
such a view covers, what a copy leaves behind it, and the ownership of a chunk.
-/
module

public import proofs.«01_k».proof.Proof.Mesh
public import Idealize.ShloMosaic.Lib.Pipeline.Launch
public import Idealize.ShloMosaic.Lib.Pipeline.Kit
public import Idealize.ShloMosaic.Lib.Tactic

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline library's copy, and the rounds of this kernel's cells with duties named by `Fin 3`. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- Contents of a staged block of `x` and of a staged result. -/
abbrev XC (F : FTy → Type) : Type := (cc0_stg0_0 : Ref sig .tc).ty.Contents (Elt F)
abbrev OC (F : FTy → Type) : Type := (cc0_stg1_0 : Ref sig .tc).ty.Contents (Elt F)

abbrev xM : Memref sig .tc .vmem S1024x512 .f32 := Memref.whole cc0_stg0_0
abbrev oM : Memref sig .tc .vmem S4096x512 .f32 := Memref.whole cc0_stg1_0

abbrev xLoc (c : Dv) : Loc nD τ sig := (c : Thread nD τ).loc cc0_stg0_0
abbrev oLoc (c : Dv) : Loc nD τ sig := (c : Thread nD τ).loc cc0_stg1_0

/-- The elements of chunk `k` (rows `128 k` to `128 k + 127`) of the result, and of `x`. -/
def oChunk (k : ℕ) : Finset S4096x512.Idx := Finset.univ.filter fun i => (i 0).val / 128 = k
def xChunk (k : ℕ) : Finset S1024x512.Idx := Finset.univ.filter fun i => (i 0).val / 128 = k

/-- A chunk of the result as the kernel slices it, and a chunk of `x`. -/
abbrev oView (off : Fin 2 → ℕ) (inb : ∀ a, off a + S128x512.size a ≤ S4096x512.size a) : Memref sig .tc .vmem S128x512 .f32 :=
  oM.slice (Rect.unit (s := S4096x512) off S128x512.size inb) (fun _ => rfl)
abbrev xView (off : Fin 2 → ℕ) (inb : ∀ a, off a + S128x512.size a ≤ S1024x512.size a) : Memref sig .tc .vmem S128x512 .f32 :=
  xM.slice (Rect.unit (s := S1024x512) off S128x512.size inb) (fun _ => rfl)

/-- What a chunk's copy credits a semaphore with. -/
def N : ℕ := (oView ![0, 0] (by decide)).view.dmaCredit
theorem N_pos : 0 < N := View.dmaCredit_pos _ (by decide)
theorem credit_oView {off inb} : (oView off inb).view.dmaCredit = N := rfl

theorem set_oView {off : Fin 2 → ℕ} {inb} {k : ℕ} (h : off = ![128 * k, 0]) : (oView off inb).view.set = oChunk k := by
  subst h
  refine (View.set_slice_whole cc0_stg1_0 _).trans (Finset.ext fun i => ?_)
  rw [Rect.mem_set_unit, oChunk, Finset.mem_filter]
  show (∀ a : Fin 2, ![128 * k, 0] a ≤ (i a).val ∧ (i a).val < ![128 * k, 0] a + S128x512.size a) ↔ _
  rw [Fin.forall_fin_two]
  have h1 : (i 1).val < 512 := (i 1).isLt
  simp only [Matrix.cons_val_zero, Matrix.cons_val_one, Finset.mem_univ, true_and]
  constructor
  · rintro ⟨⟨h, h'⟩, -⟩
    have h' : (i 0).val < 128 * k + 128 := h'
    omega
  · intro h
    refine ⟨⟨by omega, ?_⟩, Nat.zero_le _, ?_⟩
    · show (i 0).val < 128 * k + 128; omega
    · show (i 1).val < 0 + 512; omega

theorem set_xView {off : Fin 2 → ℕ} {inb} {k : ℕ} (h : off = ![128 * k, 0]) : (xView off inb).view.set = xChunk k := by
  subst h
  refine (View.set_slice_whole cc0_stg0_0 _).trans (Finset.ext fun i => ?_)
  rw [Rect.mem_set_unit, xChunk, Finset.mem_filter]
  show (∀ a : Fin 2, ![128 * k, 0] a ≤ (i a).val ∧ (i a).val < ![128 * k, 0] a + S128x512.size a) ↔ _
  rw [Fin.forall_fin_two]
  have h1 : (i 1).val < 512 := (i 1).isLt
  simp only [Matrix.cons_val_zero, Matrix.cons_val_one, Finset.mem_univ, true_and]
  constructor
  · rintro ⟨⟨h, h'⟩, -⟩
    have h' : (i 0).val < 128 * k + 128 := h'
    omega
  · intro h
    refine ⟨⟨by omega, ?_⟩, Nat.zero_le _, ?_⟩
    · show (i 0).val < 128 * k + 128; omega
    · show (i 1).val < 0 + 512; omega

set_option backward.proofsInPublic true in
/-- The element of a device's block that a row of the result shows. -/
def rowIx (i : S4096x512.Idx) : S1024x512.Idx
  | 0 => (⟨(i 0).val % 1024, Nat.mod_lt _ (by decide)⟩ : Fin 1024)
  | 1 => i 1

/-- The gathered result of device `c`: every row from the device of its line that holds it. -/
def gath (X : Dv → XC F) (c : Dv) : OC F := fun i => X (srcDev c (i 0).val) (rowIx i)

omit [FloatOps F] in
/-- A copy between equal chunks of two devices' results leaves the source's contents. -/
theorem land_oView {off off' : Fin 2 → ℕ} {inb inb'} {k : ℕ} (h : off = ![128 * k, 0]) (h' : off' = ![128 * k, 0])
    (f g : OC F) : ∀ i ∈ oChunk k, (oView off inb).view.write (Elt F) f ((oView off' inb').view.read (Elt F) g) Finset.univ i = g i := by
  intro i hi
  have e : off' = off := h'.trans h.symm
  subst e
  rw [View.write_read_eq_piecewise]
  refine Finset.piecewise_eq_of_mem _ _ _ ?_
  rw [View.setOn_univ, set_oView h]; exact hi

omit [FloatOps F] in
/-- A copy of a chunk of `x` into a chunk of the result at the same place of its block leaves `x`'s rows. -/
theorem land_xView {off off' : Fin 2 → ℕ} {inb inb'} {k k' y : ℕ} (h : off = ![128 * k, 0]) (h' : off' = ![128 * k', 0])
    (hk : k = y * 8 + k') (hk' : k' < 8)
    (f : OC F) (g : XC F) : ∀ i ∈ oChunk k, (oView off inb).view.write (Elt F) f ((xView off' inb').view.read (Elt F) g) Finset.univ i = g (rowIx i) := by
  subst h; subst h'
  intro i hi
  rw [← set_oView (inb := inb) rfl] at hi
  obtain ⟨x, -, rfl⟩ := Finset.mem_map.mp hi
  refine (View.write_emb_of_mem (v := (oView (![128 * k, 0]) inb).view) _ _ (Finset.mem_univ x)).trans ?_
  show g _ = g _
  congr 1
  funext a
  have h0 : (x 0).val < 128 := (x 0).isLt
  fin_cases a
  · apply Fin.ext
    show 128 * k' + 1 * (x 0).val = (128 * k + 1 * (x 0).val) % 1024
    omega
  · apply Fin.ext
    show 0 + 1 * (x 1).val = 0 + 1 * (x 1).val
    rfl

/-! ## Ownership -/

/-- Chunk `k` of device `c`'s result, at share `q`, holding `f`'s rows. -/
def oPts (c : Dv) (k : ℕ) (q : PosShare TreeShare) (f : OC F) : sProp 𝕄 := oLoc c ↦[oChunk k]{q} f
/-- Chunk `k` of device `c`'s block of `x`. -/
def xPts (X : Dv → XC F) (c : Dv) (k : ℕ) (q : PosShare TreeShare) : sProp 𝕄 := xLoc c ↦[xChunk k]{q} X c

instance oPts_storable (c k q f) : BI.Storable (upEmb : UEmb _ 𝕄) (oPts (F := F) c k q f) := by unfold oPts; infer_instance
instance xPts_storable (X c k q) : BI.Storable (upEmb : UEmb _ 𝕄) (xPts (F := F) X c k q) := by unfold xPts; infer_instance

omit [FloatOps F] in
theorem oPts_congr {c k q} {f g : OC F} (h : ∀ i ∈ oChunk k, f i = g i) : oPts c k q f = oPts c k q g := pointsTo_congr h

omit [FloatOps F] in
theorem oPts_halves (c k) (f : OC F) :
    oPts c k fullShare f ⊣⊢ iprop(oPts c k fullShare.left f ∗ oPts c k fullShare.right f) :=
  pointsTo_share (PosShare.mem_left_op_right _)

omit [FloatOps F] in
/-- Rows that two devices take from the same places they hold alike. -/
theorem gath_congr (X : Dv → XC F) {c c' : Dv} {k : ℕ} (h : ∀ r, r / 128 = k → srcDev c r = srcDev c' r) :
    ∀ i ∈ oChunk k, gath X c i = gath X c' i := by
  intro i hi
  simp only [gath, h _ (Finset.mem_filter.mp hi).2]

end Cert.Gather
-- ==== Proof.Sched.lean ====
/-
# The cells, their schedule, and what a device owes

Each device has a barrier cell and, for every link, four DMA cells: of kind 0 (its send along the line), 1 (its receive from
the line), 2 (its forward to the partner) and 3 (its receive from the partner). Every cell has one round; a cell no copy
completes on has no duty in it.
-/
module

public import proofs.«01_k».proof.Proof.Chunks

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

abbrev barS : Sem sig := (SemArray.scalar (sig.barrier 0 rfl) : Sems sig S_).sem

/-- The number of the DMA semaphore of kind `k` and link `i`. -/
def encN (k : Fin 4) (i : Fin 24) : ℕ :=
  match k with
  | 0 => if i.val % 2 = 0 then 2 + i.val / 2 else 26 + i.val / 2
  | 1 => if i.val % 2 = 0 then 14 + i.val / 2 else 38 + i.val / 2
  | 2 => 50 + i.val
  | 3 => 74 + i.val

theorem encN_lt : ∀ k i, encN k i < 98 := by decide +kernel

set_option backward.proofsInPublic true in
def enc (k : Fin 4) (i : Fin 24) : DmaSem sig := (⟨encN k i, encN_lt k i⟩ : Fin 98)

/-- The kind and link of a DMA semaphore; none for the two the pipeline stages with. -/
def dec (q : DmaSem sig) : Option (Fin 4 × Fin 24) :=
  let n : ℕ := (show Fin 98 from q).val
  if n < 2 then none
  else if n < 14 then some (0, Fin.ofNat 24 (2 * (n - 2)))
  else if n < 26 then some (1, Fin.ofNat 24 (2 * (n - 14)))
  else if n < 38 then some (0, Fin.ofNat 24 (2 * (n - 26) + 1))
  else if n < 50 then some (1, Fin.ofNat 24 (2 * (n - 38) + 1))
  else if n < 74 then some (2, Fin.ofNat 24 (n - 50))
  else some (3, Fin.ofNat 24 (n - 74))

theorem dec_enc : ∀ k i, dec (enc k i) = some (k, i) := by decide +kernel

theorem enc_inj {k k' : Fin 4} {i i' : Fin 24} (h : enc k i = enc k' i') : k = k' ∧ i = i' := by
  have := (dec_enc k i).symm.trans ((congrArg dec h).trans (dec_enc k' i'))
  exact ⟨congrArg Prod.fst (Option.some.inj this), congrArg Prod.snd (Option.some.inj this)⟩

/-- A device's cells by name: the barrier, or a kind and a link. -/
abbrev CI : Type := Option (Fin 4 × Fin 24)
def csem : CI → SemLoc sig
  | none => .reg barS
  | some p => .dma (enc p.1 p.2)

theorem csem_inj : Function.Injective csem := by
  rintro (_ | ⟨k, i⟩) (_ | ⟨k', i'⟩) h
  · rfl
  · cases h
  · cases h
  · obtain ⟨rfl, rfl⟩ : k = k' ∧ i = i' := enc_inj (SemLoc.dma.inj h); rfl

abbrev cell (p : Dv × CI) : GSem nD τ sig := ((p.1 : Thread nD τ), csem p.2)
abbrev barCell (c : Dv) : GSem nD τ sig := ((c : Thread nD τ), .reg barS)
abbrev kc (c : Dv) (k : Fin 4) (i : Fin 24) : GSem nD τ sig := ((c : Thread nD τ), .dma (enc k i))

theorem cell_inj : Function.Injective cell := by
  rintro ⟨c, a⟩ ⟨c', a'⟩ h
  have h1 : c = c' := congrArg (fun g : GSem nD τ sig => g.1.1) h
  have h2 : a = a' := csem_inj (congrArg (fun g : GSem nD τ sig => g.2) h)
  rw [h1, h2]

theorem kc_inj {c c' : Dv} {k k' : Fin 4} {i i' : Fin 24} (h : kc c k i = kc c' k' i') : c = c' ∧ k = k' ∧ i = i' :=
  ⟨congrArg (fun g : GSem nD τ sig => g.1.1) h, enc_inj (SemLoc.dma.inj (congrArg (fun g : GSem nD τ sig => g.2) h))⟩

/-! ## The payloads -/

/-- The shares `x` is staged at: one to load it, one for each direction's sends. -/
abbrev qLoad : PosShare TreeShare := fullShare.left
abbrev qDir (d : ℕ) : PosShare TreeShare := if d = 0 then fullShare.right.left else fullShare.right.right

section Pay
variable (X : Dv → XC F) (c : Dv)

/-- The half share of a received chunk that its next send along the line reads. -/
def held (i : Fin 24) : sProp 𝕄 := if rr c i then oPts c (rk c i) fullShare.left (gath X c) else iprop(emp)
/-- The other half, which its forward to the partner reads. -/
def lent (i : Fin 24) : sProp 𝕄 := if rr c i then oPts c (rk c i) fullShare.right (gath X c) else iprop(emp)
/-- The chunk the partner forwards. -/
def gift (i : Fin 24) : sProp 𝕄 := if rr c i then oPts c (pk c i) fullShare (gath X c) else iprop(emp)

set_option backward.proofsInPublic true in
/-- What the send on link `i` reads: a chunk of `x` in the first step, in a later one the chunk received 8 links before.
    (Indices 24 to 31: the chunks received in the last step, which no send reads.) -/
def srcP (i : Fin 32) : sProp 𝕄 :=
  if h : i.val < 8 then xPts X c (xk c ⟨i.val, by omega⟩) (qDir (i.val % 2)) else held X c ⟨i.val - 8, by omega⟩

/-- The place of link `i` among the sources, and the place its receive makes a source. -/
abbrev lo (i : Fin 24) : Fin 32 := ⟨i.val, by omega⟩
abbrev hi (i : Fin 24) : Fin 32 := ⟨i.val + 8, by omega⟩

/-- Chunks to be written, at whatever contents: link `i`'s on the next device, and on the partner. -/
def lineDst (i : Fin 24) : sProp 𝕄 := if rs c i then iprop(∃ f, oPts (nxt (dir i) c) (rk (nxt (dir i) c) i) fullShare f) else iprop(emp)
def parDst (i : Fin 24) : sProp 𝕄 := if rr c i then iprop(∃ f, oPts (par c) (pk (par c) i) fullShare f) else iprop(emp)

/-- What a signal of name `d` to `c`'s barrier cell hands over: 0 and 1, the next device's chunks in that direction; 2, the
    partner's. -/
def barPay (d : Fin 3) : sProp 𝕄 :=
  if d = 2 then bigSep Finset.univ (parDst (F := F) c)
  else bigSep Finset.univ fun i => if dir i = d.val then lineDst (F := F) c i else iprop(emp)

/-- What the copy completing on the cell of kind `k` and link `i` hands over. -/
def dmaPay (k : Fin 4) (i : Fin 24) : sProp 𝕄 :=
  match k with
  | 0 => srcP X c (lo i)
  | 1 => oPts c (rk c i) fullShare (gath X c)
  | 2 => oPts c (rk c i) fullShare.right (gath X c)
  | 3 => oPts c (pk c i) fullShare (gath X c)

instance held_storable (i) : BI.Storable (upEmb : UEmb _ 𝕄) (held X c i) := by unfold held; split <;> infer_instance
instance srcP_storable (i) : BI.Storable (upEmb : UEmb _ 𝕄) (srcP X c i) := by unfold srcP; split <;> infer_instance
instance lineDst_storable (i) : BI.Storable (upEmb : UEmb _ 𝕄) (lineDst (F := F) c i) := by unfold lineDst; split <;> infer_instance
instance parDst_storable (i) : BI.Storable (upEmb : UEmb _ 𝕄) (parDst (F := F) c i) := by unfold parDst; split <;> infer_instance
instance lineDst_dir_storable (i : Fin 24) (d : ℕ) :
    BI.Storable (upEmb : UEmb _ 𝕄) (if dir i = d then lineDst (F := F) c i else iprop(emp)) := by split <;> infer_instance
instance barPay_storable (d) : BI.Storable (upEmb : UEmb _ 𝕄) (barPay (F := F) c d) := by
  unfold barPay; split <;> infer_instance
instance dmaPay_storable (k i) : BI.Storable (upEmb : UEmb _ 𝕄) (dmaPay X c k i) := by
  unfold dmaPay; split <;> infer_instance

end Pay

/-! ## The schedule -/

/-- Whether a copy completes on the cell of kind `k` and link `i`. -/
abbrev used (c : Dv) (k : Fin 4) (i : Fin 24) : Prop := if k = 0 then rs c i else rr c i
/-- Whether the barrier signal of name `d` is sent to `c`. -/
abbrev barUsed (c : Dv) (d : Fin 3) : Prop := d = 2 ∨ pos d.val c ≤ 2

instance (c k i) : Decidable (used c k i) := by unfold used; infer_instance

def dutiesOf (c : Dv) : SemLoc sig → Finset (Fin 3)
  | .reg _ => Finset.univ.filter (barUsed c)
  | .dma q => match dec q with
    | none => ∅
    | some (k, i) => if used c k i then {0} else ∅

def amountOf : SemLoc sig → ℕ
  | .reg _ => 1
  | .dma _ => N

def payOf (X : Dv → XC F) (c : Dv) (d : Fin 3) : SemLoc sig → sProp 𝕄
  | .reg _ => barPay c d
  | .dma q => match dec q with
    | none => iprop(emp)
    | some (k, i) => dmaPay X c k i

instance payOf_storable (X : Dv → XC F) (c d s) : BI.Storable (upEmb : UEmb _ 𝕄) (payOf X c d s) := by
  unfold payOf; split
  · infer_instance
  · split <;> infer_instance

/-- One round, round 0, of every TensorCore cell. -/
def gRd (X : Dv → XC F) : Rounds.Schedule (GSem nD τ sig) (Fin 3) 𝕄 where
  duties g r := if r = 0 ∧ g.1.2 = .tc then dutiesOf g.1.1 g.2 else ∅
  unitless _ := False
  amount g _ _ := amountOf g.2
  payload g _ d := payOf X g.1.1 d g.2
  amount_pos g _ _ _ := by
    cases h : g.2 with
    | reg _ => exact Nat.one_pos
    | dma _ => exact N_pos

instance gRd_storable (X : Dv → XC F) (g : GSem nD τ sig) (r : ℕ) (d : Fin 3) :
    BI.Storable (upEmb : UEmb _ 𝕄) ((gRd X).payload g r d) := payOf_storable X g.1.1 d g.2

section Sched
variable (X : Dv → XC F) (c : Dv)

omit [FloatOps F] in
theorem duties_later (g : GSem nD τ sig) : ∀ r, 1 ≤ r → (gRd X).duties g r = ∅ :=
  fun r hr => if_neg fun h => by omega
omit [FloatOps F] in
theorem duties_bar : (gRd X).duties (barCell c) 0 = Finset.univ.filter (barUsed c) := by dsimp only [gRd]; exact if_pos ⟨rfl, rfl⟩
omit [FloatOps F] in
theorem duties_kc (k i) : (gRd X).duties (kc c k i) 0 = if used c k i then {0} else ∅ := by
  dsimp only [gRd]
  rw [if_pos ⟨rfl, rfl⟩]
  show (match dec (enc k i) with | none => (∅ : Finset (Fin 3)) | some (k, i) => if used c k i then {0} else ∅) = _
  rw [dec_enc]
omit [FloatOps F] in
theorem duties_used {k i} (h : used c k i) : (gRd X).duties (kc c k i) 0 = {0} := by rw [duties_kc, if_pos h]
omit [FloatOps F] in
theorem duties_unused {k i} (h : ¬ used c k i) : ∀ r, (gRd X).duties (kc c k i) r = ∅
  | 0 => by rw [duties_kc, if_neg h]
  | _ + 1 => duties_later X _ _ (Nat.le_add_left _ _)
omit [FloatOps F] in
theorem mem_duties {k i} (h : used c k i) : (0 : Fin 3) ∈ (gRd X).duties (kc c k i) 0 := by
  rw [duties_used X c h]; exact Finset.mem_singleton_self _
omit [FloatOps F] in
theorem amount_kc (k i) : (gRd X).amount (kc c k i) 0 0 = N := rfl
omit [FloatOps F] in
theorem payload_kc (k i d) : (gRd X).payload (kc c k i) 0 d = dmaPay X c k i := by
  show (match dec (enc k i) with | none => iprop(emp) | some (k, i) => dmaPay X c k i) = _
  rw [dec_enc]
omit [FloatOps F] in
theorem expect_kc {k i} (h : used c k i) : (gRd X).expect (kc c k i) 0 = N := by
  unfold Schedule.expect Schedule.amountOf; rw [duties_used X c h, Finset.sum_singleton]; rfl
omit [FloatOps F] in
/-- What a wait for the cell's round returns. -/
theorem rest_kc {k i} (h : used c k i) :
    bigSep ((gRd X).duties (kc c k i) 0 \ ∅) (fun d => (gRd X).payload (kc c k i) 0 d) = dmaPay X c k i := by
  rw [Finset.sdiff_empty, duties_used X c h, bigSep_singleton, payload_kc]
omit [FloatOps F] in
theorem expect_bar : (gRd X).expect (barCell c) 0 = (Finset.univ.filter (barUsed c)).card := by
  unfold Schedule.expect Schedule.amountOf
  rw [duties_bar, Finset.card_eq_sum_ones]; rfl

end Sched

/-! ## What a device owes, and the levels -/

/-- The unit owed to the next device on link `i`, and to the partner. -/
def tS (c : Dv) (i : Fin 24) : CellTallies nD τ sig Unit := if rs c i then tallyAt (kc (nxt (dir i) c) 1 i) () N else 0
def tF (c : Dv) (i : Fin 24) : CellTallies nD τ sig Unit := if rr c i then tallyAt (kc (par c) 3 i) () N else 0

/-- What links `a` and later still owe. -/
def oS (c : Dv) (a : ℕ) : CellTallies nD τ sig Unit := ∑ i ∈ Finset.univ.filter (fun i : Fin 24 => a ≤ i.val), tS c i
def oF (c : Dv) (b : ℕ) : CellTallies nD τ sig Unit := ∑ i ∈ Finset.univ.filter (fun i : Fin 24 => b ≤ i.val), tF c i

/-- The signal owed to the barrier cell of the device in direction `d`. -/
def tB (c : Dv) (d : ℕ) : CellTallies nD τ sig Unit := if pos d c ≤ 2 then tallyAt (barCell (nxt d c)) () 1 else 0

/-- What a device owes when it starts, the first signal's unit last. -/
def o₂ (c : Dv) : CellTallies nD τ sig Unit := oS c 0 + oF c 0 + tallyAt (barCell (par c)) () 1
def o₁ (c : Dv) : CellTallies nD τ sig Unit := o₂ c + tB c 0
def o₀ (c : Dv) : CellTallies nD τ sig Unit := o₁ c + tB c 1

theorem sum_from {M : Type} [AddCommMonoid M] (f : Fin 24 → M) (i : Fin 24) :
    ∑ j ∈ Finset.univ.filter (fun j : Fin 24 => i.val ≤ j.val), f j
      = (∑ j ∈ Finset.univ.filter (fun j : Fin 24 => i.val + 1 ≤ j.val), f j) + f i := by
  have e : Finset.univ.filter (fun j : Fin 24 => i.val ≤ j.val)
      = insert i (Finset.univ.filter (fun j : Fin 24 => i.val + 1 ≤ j.val)) := by
    ext j; simp only [Finset.mem_filter, Finset.mem_univ, true_and, Finset.mem_insert, Fin.ext_iff]; omega
  rw [e, Finset.sum_insert (by simp), add_comm]

theorem oS_step (c : Dv) (i : Fin 24) : oS c i.val = oS c (i.val + 1) + tS c i := sum_from _ i
theorem oF_step (c : Dv) (i : Fin 24) : oF c i.val = oF c (i.val + 1) + tF c i := sum_from _ i

theorem sum_end {M : Type} [AddCommMonoid M] (f : Fin 24 → M) : ∑ j ∈ Finset.univ.filter (fun j : Fin 24 => 24 ≤ j.val), f j = 0 := by
  rw [Finset.filter_false_of_mem fun i _ => by omega, Finset.sum_empty]
theorem oS_end (c : Dv) : oS c 24 = 0 := sum_end _
theorem oF_end (c : Dv) : oF c 24 = 0 := sum_end _

theorem sum_pos_at {S : Finset (Fin 24)} {T : Fin 24 → CellTallies nD τ sig Unit} {g : GSem nD τ sig} {u : Unit}
    (h : 0 < (∑ i ∈ S, T i) g u) : ∃ i ∈ S, 0 < T i g u := by
  by_contra hn
  have h0 : ∀ i ∈ S, T i g u = 0 := fun i hi => by
    by_contra h'; exact hn ⟨i, hi, Nat.pos_of_ne_zero h'⟩
  rw [Finset.sum_apply, Finsupp.finset_sum_apply, Finset.sum_eq_zero h0] at h
  exact Nat.lt_irrefl 0 h

theorem tally_pos {g g' : GSem nD τ sig} {k : ℕ} {u : Unit} (h : 0 < tallyAt g () k g' u) : g' = g := by
  rw [tallyAt_apply] at h
  by_contra hn
  rw [if_neg fun e => hn e.1] at h; exact Nat.lt_irrefl 0 h

theorem oS_pos {c : Dv} {a : ℕ} {g : GSem nD τ sig} {u : Unit} (h : 0 < oS c a g u) :
    ∃ i : Fin 24, a ≤ i.val ∧ g = kc (nxt (dir i) c) 1 i := by
  obtain ⟨i, hi, h⟩ := sum_pos_at h
  refine ⟨i, (Finset.mem_filter.mp hi).2, ?_⟩
  unfold tS at h
  split at h
  · exact tally_pos h
  · exact absurd h (Nat.lt_irrefl 0)

theorem oF_pos {c : Dv} {b : ℕ} {g : GSem nD τ sig} {u : Unit} (h : 0 < oF c b g u) :
    ∃ i : Fin 24, b ≤ i.val ∧ g = kc (par c) 3 i := by
  obtain ⟨i, hi, h⟩ := sum_pos_at h
  refine ⟨i, (Finset.mem_filter.mp hi).2, ?_⟩
  unfold tF at h
  split at h
  · exact tally_pos h
  · exact absurd h (Nat.lt_irrefl 0)

theorem tB_pos {c : Dv} {d : ℕ} {g : GSem nD τ sig} {u : Unit} (h : 0 < tB c d g u) : g = barCell (nxt d c) := by
  unfold tB at h
  split at h
  · exact tally_pos h
  · exact absurd h (Nat.lt_irrefl 0)

theorem add_pos_at {T T' : CellTallies nD τ sig Unit} {g : GSem nD τ sig} {u : Unit} (h : 0 < (T + T') g u) : 0 < T g u ∨ 0 < T' g u := by
  rw [Pi.add_apply, Finsupp.add_apply] at h; omega

/-- Whatever a device owes when it starts, it owes a line receive, a partner receive or a barrier. -/
theorem o₀_pos {c : Dv} {g : GSem nD τ sig} {u : Unit} (h : 0 < o₀ c g u) :
    (∃ c' i, g = kc c' 1 i) ∨ (∃ c' i, g = kc c' 3 i) ∨ ∃ c', g = barCell c' := by
  rcases add_pos_at h with h | h
  · rcases add_pos_at h with h | h
    · rcases add_pos_at h with h | h
      · rcases add_pos_at h with h | h
        · obtain ⟨i, -, e⟩ := oS_pos h; exact .inl ⟨_, i, e⟩
        · obtain ⟨i, -, e⟩ := oF_pos h; exact .inr (.inl ⟨_, i, e⟩)
      · exact .inr (.inr ⟨_, tally_pos h⟩)
    · exact .inr (.inr ⟨_, tB_pos h⟩)
  · exact .inr (.inr ⟨_, tB_pos h⟩)

def L (g : GSem nD τ sig) : Finset Unit := if g.1.2 = .tc then {()} else ∅

def lvOf : SemLoc sig → ℕ
  | .reg _ => 1
  | .dma q => match dec q with
    | none => 0
    | some (k, i) => if k = 1 then 2 + stp i else if k = 3 then 10 else 0

/-- Staging and sends at 0, the barrier at 1, the line's receives by their step, the partner's receives last. -/
def lv (g : GSem nD τ sig) (_ : Unit) : ℕ := lvOf g.2

theorem L_of_ne (g : GSem nD τ sig) (h : g.1.2 ≠ .tc) : L g = ∅ := if_neg h
theorem L_tc (c : Dv) (sm : SemLoc sig) : L ((c : Thread nD τ), sm) = {()} := if_pos rfl

theorem lv_kc (c k i) : lv (kc c k i) () = if k = 1 then 2 + stp i else if k = 3 then 10 else 0 := by
  show (match dec (enc k i) with | none => 0 | some (k, i) => if k = 1 then 2 + stp i else if k = 3 then 10 else 0) = _
  rw [dec_enc]
theorem lv_line (c i) : lv (kc c 1 i) () = 2 + stp i := by rw [lv_kc, if_pos rfl]
theorem lv_par (c i) : lv (kc c 3 i) () = 10 := by rw [lv_kc, if_neg (by decide), if_pos rfl]
theorem lv_bar (c : Dv) : lv (barCell c) () = 1 := rfl

omit [FloatOps F] in
/-- A wait below everything owed, all of it on TensorCores, is allowed. -/
theorem mayWait_of {c : Dv} {sm : SemLoc sig} {O : CellTallies nD τ sig Unit}
    (h : ∀ g u, 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ()) (fun p hp => by rw [Finset.mem_singleton.mp hp, L_tc]; exact Finset.mem_singleton_self _)
    (fun g u hg => by rw [L, if_pos (h g u hg).1]; exact Finset.mem_singleton_self _)
    (fun p hp => by rw [Finset.mem_singleton.mp hp])
    (fun g u hg => (h g u hg).2)

omit [FloatOps F] in
/-- A line receive may be waited for when the sends still owed are of later steps. -/
theorem mayWait_line (c : Dv) (i : Fin 24) {a b : ℕ} (ha : 8 * (i.val / 8 + 1) ≤ a) :
    (levAts L lv : sProp 𝕄) ⊢ MayWait (c : Thread nD τ) (.dma (enc 1 i)) () (oS c a + oF c b) := by
  refine mayWait_of fun g u hg => ?_
  show _ ∧ lv (kc c 1 i) () < _
  rcases add_pos_at hg with h | h
  · obtain ⟨i', hi, rfl⟩ := oS_pos h
    refine ⟨rfl, ?_⟩
    rw [lv_line, lv_line]; simp only [stp]; omega
  · obtain ⟨i', hi, rfl⟩ := oF_pos h
    refine ⟨rfl, ?_⟩
    rw [lv_line, lv_par]; simp only [stp]; omega

omit [FloatOps F] in
theorem mayWait_bar (c : Dv) : (levAts L lv : sProp 𝕄) ⊢ MayWait (c : Thread nD τ) (.reg barS) () (oS c 0 + oF c 0) := by
  refine mayWait_of fun g u hg => ?_
  show _ ∧ 1 < _
  rcases add_pos_at hg with h | h
  · obtain ⟨i', hi, rfl⟩ := oS_pos h
    exact ⟨rfl, by rw [lv_line]; omega⟩
  · obtain ⟨i', hi, rfl⟩ := oF_pos h
    exact ⟨rfl, by rw [lv_par]; omega⟩

omit [FloatOps F] in
/-- The pipeline's own staging waits sit below everything. -/
theorem mayWait_stage (c : Dv) (q : DmaSem sig) (hq : dec q = none) {O : CellTallies nD τ sig Unit} (hO : O = o₀ c ∨ O = 0) :
    (levAts L lv : sProp 𝕄) ⊢ MayWait (c : Thread nD τ) (.dma q) () O := by
  have h0 : lv ((c : Thread nD τ), .dma q) () = 0 := by
    show (match dec q with | none => 0 | some (k, i) => if k = 1 then 2 + stp i else if k = 3 then 10 else 0) = 0
    rw [hq]
  rcases hO with rfl | rfl
  · refine mayWait_of fun g u hg => ?_
    rw [h0]
    rcases o₀_pos hg with ⟨c', i, rfl⟩ | ⟨c', i, rfl⟩ | ⟨c', rfl⟩
    · exact ⟨rfl, by rw [lv_line]; omega⟩
    · exact ⟨rfl, by rw [lv_par]; omega⟩
    · exact ⟨rfl, by rw [lv_bar]; omega⟩
  · rw [MayWait_zero]; iintro -; iempintro

end Cert.Gather
-- ==== Proof.Copies.lean ====
/-
# One copy, one wait

The kernel's copies and waits, each between or on cells of the schedule, whatever the link: a copy gives its source to the
send cell and its landed rows to the receive cell; a wait returns what its cell was paid and leaves the cell closed.
-/
module

public import proofs.«01_k».proof.Proof.Sched

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a piece of device `c`'s body. -/
abbrev run {α : Type} (c : Dv) (p : Prog (TpuEff nD τ sig (Elt F) Λ₀ .tc) α) (Q : α → sProp 𝕄) : sProp 𝕄 :=
  wp frame (wpE (defs₀ (F := F)) 𝒱₀ (c : Thread nD τ) none) Set.univ p Q

variable (X : Dv → XC F) (K : Dv × CI → ℕ)

/-- Every cell's invariant and that its round 0 is open; the levels. -/
def recs : sProp 𝕄 :=
  iprop((bigSep Finset.univ fun p : Dv × CI => iprop(cellInv ER (gRd X) (K p) (cell p) ∗ reached ER (cell p) 0)) ∗ levAts L lv)

instance recs_persistent : BI.Persistent (recs X K) := by unfold recs; infer_instance

theorem recs_cell (p : Dv × CI) : recs X K ⊢ iprop(cellInv ER (gRd X) (K p) (cell p) ∗ reached ER (cell p) 0) := by
  unfold recs
  exact (BI.sep_and.trans BI.and_elimL).trans (bigSep_elim (Finset.mem_univ p))

theorem recs_kc (c : Dv) (k : Fin 4) (i : Fin 24) :
    recs X K ⊢ iprop(cellInv ER (gRd X) (K (c, some (k, i))) (kc c k i) ∗ reached ER (kc c k i) 0) := recs_cell X K (c, some (k, i))

/-- A receive may be waited for where every earlier step's sends have been issued. -/
theorem recs_mayWait (c : Dv) (i : Fin 24) {a b : ℕ} (ha : 8 * (i.val / 8 + 1) ≤ a) :
    recs X K ⊢ MayWait (c : Thread nD τ) (.dma (enc 1 i)) () (oS c a + oF c b) :=
  by
  have h := mayWait_line (F := F) c i (a := a) (b := b)
  unfold recs; iintro ⟨-, H⟩; iapply (h ha); iexact H

theorem recs_mayWait_bar (c : Dv) : recs X K ⊢ MayWait (c : Thread nD τ) (.reg barS) () (oS c 0 + oF c 0) := by
  unfold recs; iintro ⟨-, H⟩; iapply (mayWait_bar c); iexact H

/-- A copy of one chunk from `c` to `n`, completing on `c`'s cell of kind `k₁` and on `n`'s of kind `k₂`. -/
theorem copy_core {c c' n : Dv} {k₁ k₂ : Fin 4} {i : Fin 24} (hn : n = c') (h₁ : used c k₁ i) (h₂ : used c' k₂ i)
    {off : Fin 2 → ℕ} {inb} {kk : ℕ} (hoff : off = ![128 * kk, 0])
    {sS sR : DmaSem sig} (hS : sS = enc k₁ i) (hR : sR = enc k₂ i)
    {src : Memref sig .tc .vmem S128x512 .f32} {q : PosShare TreeShare} {fs : Buf (Elt F) (src.view.loc (c : Thread nD τ))}
    (hsrc : (src.view.loc (c : Thread nD τ) ↦[src.view.set]{q} fs) ⊢ dmaPay X c k₁ i)
    (hdst : ∀ fd : OC F, oPts c' kk fullShare ((oView off inb).view.write (Elt F) fd (src.view.read (Elt F) fs) Finset.univ) ⊢ dmaPay X c' k₂ i)
    {O₀ : CellTallies nD τ sig Unit} (O : CellTallies nD τ sig Unit) (hO : O₀ = O + tallyAt (kc c' k₂ i) () N) {W : Waits sig Unit}
    {hsc : (oView off inb : Memref sig (Dev.tc n : Thread nD τ).2.kind .vmem S128x512 .f32).view.ref.isScScratch = false}
    {hw : src.view.WordExact} {hw' : (oView off inb).view.WordExact}
    {ht : DmaTarget.Typed .vmem (.dma sR) (.remote (Dev.tc n : Thread nD τ) (oView off inb) (.dma sS) hsc)}
    {α : Type} {Q : α → sProp 𝕄} {k : PUnit → Prog (TpuEff nD τ sig (Elt F) Λ₀ .tc) α} :
    iprop(recs X K ∗ (src.view.loc (c : Thread nD τ) ↦[src.view.set]{q} fs) ∗ (∃ f, oPts c' kk fullShare f)
        ∗ owes (c : Thread nD τ) O₀ W ∗ dutyTok ER (kc c k₁ i) 0 0 ∗ dutyTok ER (kc c' k₂ i) 0 0)
      ⊢ iprop(((cred (tallyAt (kc c k₁ i) () N) ∗ owes (c : Thread nD τ) O W) -∗ run c (k ⟨⟩) Q)
          -∗ run c (.op (.enqueueDma src (.remote (Dev.tc n : Thread nD τ) (oView off inb) (.dma sS) hsc) (.dma sR) hw hw' ht) k) Q) := by
  subst hn; subst hS; subst hR
  iintro ⟨#HR, Hsrc, ⟨%fd, Hdst⟩, HO, Ht₁, Ht₂⟩
  ihave H1 := (recs_kc X K c k₁ i) $$ HR
  ihave H2 := (recs_kc X K n k₂ i) $$ HR
  icases H1 with ⟨#HI₁, #Hr₁⟩
  icases H2 with ⟨#HI₂, #Hr₂⟩
  iapply (Rounds.wp_send_pointsTo 𝒱₀ ER (gRd X) (c : Thread nD τ) none (κ₁ := K (c, some (k₁, i))) (κ₂ := K (n, some (k₂, i)))
    (r₁ := 0) (r₂ := 0) (d₁ := 0) (d₂ := 0) (fd := fd) (q := q) (fs := fs)
    (mem_duties X c h₁) (mem_duties X n h₂) () () N credit_oView (amount_kc X c k₁ i) (amount_kc X n k₂ i) O hO (W := W)
    (by rw [payload_kc]; exact hsrc)
    (by rw [payload_kc, set_oView hoff]; exact hdst fd)) $$ [Hsrc Hdst HO Ht₁ Ht₂]
  isplitr; · iexact HI₁
  isplitr; · iexact HI₂
  isplitl [Hsrc]; · iexact Hsrc
  isplitl [Hdst]
  · rw [set_oView hoff]; unfold oPts; iexact Hdst
  isplitl [HO]; · iexact HO
  isplitl [Ht₁]; · iexact Ht₁
  isplitr; · iexact Hr₁
  isplitl [Ht₂]; · iexact Ht₂
  iexact Hr₂

/-- A cell no copy completes on is closed where the kernel would wait for it. -/
theorem skip_core {c : Dv} {k : Fin 4} {i : Fin 24} (h : ¬ used c k i) :
    iprop(recs X K ∗ atPos ER (kc c k i) 0 ∅ 0) ⊢ iprop(|={Set.univ}=> semVal (kc c k i) 0) := by
  iintro ⟨#HR, Hat⟩
  ihave H1 := (recs_kc X K c k i) $$ HR
  icases H1 with ⟨#HI, -⟩
  iapply (Rounds.cell_close ER (gRd X) (Set.mem_univ (K (c, some (k, i)))) (fun h => h) (R := 0) (fun r _ => duties_unused X c h r))
  isplitr; · iexact HI
  iexact Hat

/-- A wait for a copy's completion: its payload, and the cell closed. -/
theorem wait_core {c : Dv} {k : Fin 4} {i : Fin 24} (h : used c k i) {s : DmaSem sig} (hs : s = enc k i)
    {off off' : Fin 2 → ℕ} {inb inb'} {O : CellTallies nD τ sig Unit} {W : Waits sig Unit}
    {hw : (oView off inb).view.WordExact} {hw' : (oView off' inb').view.WordExact}
    {α : Type} {Q : α → sProp 𝕄} {kk : PUnit → Prog (TpuEff nD τ sig (Elt F) Λ₀ .tc) α} :
    iprop(recs X K ∗ cred (tallyAt (kc c k i) () N) ∗ owes (c : Thread nD τ) O W ∗ MayWait (c : Thread nD τ) (.dma (enc k i)) () O
        ∗ atPos ER (kc c k i) 0 ∅ 0)
      ⊢ iprop((((∃ W, owes (c : Thread nD τ) O W) ∗ semVal (kc c k i) 0 ∗ dmaPay X c k i) -∗ run c (kk ⟨⟩) Q)
          -∗ run c (.op (.waitDma2 s (oView off inb) (oView off' inb') hw hw') kk) Q) := by
  subst hs
  iintro ⟨#HR, Hc, HO, HM, Hat⟩ Hk
  ihave H1 := (recs_kc X K c k i) $$ HR
  icases H1 with ⟨#HI, -⟩
  iapply (Rounds.wp_wait_rest_token 𝒱₀ ER (gRd X) (c : Thread nD τ) none (κ := K (c, some (k, i)))
      (wpE_waitDma2_eq 𝒱₀ (c : Thread nD τ) none Set.univ) (Set.mem_univ _) () (O := O) (W := W) (R := 0) (m := 0) (T := ∅)
      (by rw [Nat.zero_add]; exact (expect_kc X c h).symm)) $$ [Hc HO HM Hat]
  · isplitr; · iexact HI
    isplitl [Hc]; · iexact Hc
    isplitl [HO]; · iexact HO
    isplitl [HM]; · iexact HM
    iexact Hat
  iintro ⟨HO, Hat, -, Hpay⟩
  ihave Hp := (Entails.of_eq (rest_kc X c h)) $$ Hpay
  imod (Rounds.cell_close ER (gRd X) (Set.mem_univ (K (c, some (k, i)))) (fun h => h) (R := 0 + 1) (duties_later X (kc c k i))) $$ [Hat] with Hz
  · isplitr; · iexact HI
    iexact Hat
  iapply Hk
  isplitl [HO]; · iexists _; iexact HO
  isplitl [Hz]; · iexact Hz
  iexact Hp

end Cert.Gather
-- ==== Proof.State.lean ====
/-
# The state of a device between two operations

The body is a fixed sequence: sends and receives along the line, step by step, each receive followed by the forward to the
partner; then the partner's chunks are waited for; then the sends and forwards. Between two operations a device's resources
are told by five counts: `a` sends issued, `b` chunks received and forwarded, `w` of the partner's chunks received, and, at the
end, `u` sends and `v` forwards waited for. Here: that state, and what each operation does to it.
-/
module

public import proofs.«01_k».proof.Proof.Copies

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section State
variable (X : Dv → XC F) (K : Dv × CI → ℕ) (c : Dv)

/-- A send not issued: its two duties and the place it writes; issued: the credit for its wait, or, where no send is made,
    what would have been sent. -/
def readyP (i : Fin 24) : sProp 𝕄 :=
  iprop(dutyTok ER (kc c 0 i) 0 0 ∗ dutyTok ER (kc (nxt (dir i) c) 1 i) 0 0 ∗ lineDst c i)
def sentQ (i : Fin 24) : sProp 𝕄 := if rs c i then cred (tallyAt (kc c 0 i) () N) else srcP X c (lo i)

def sendF (a u : ℕ) (i : Fin 24) : sProp 𝕄 :=
  if i.val < u then semVal (kc c 0 i) 0
  else iprop(atPos ER (kc c 0 i) 0 ∅ 0 ∗ if i.val < a then sentQ X c i else readyP c i)

/-- The sources that are at hand. -/
def srcF (a b u : ℕ) (j : Fin 32) : sProp 𝕄 :=
  if j.val < u ∨ (a ≤ j.val ∧ (j.val < 8 ∨ j.val < b + 8)) then srcP X c j else iprop(emp)

/-- A cell's credit, where a copy completes on it. -/
def creditP (k : Fin 4) (i : Fin 24) : sProp 𝕄 := if rr c i then cred (tallyAt (kc c k i) () N) else iprop(emp)

def recvF (b : ℕ) (i : Fin 24) : sProp 𝕄 :=
  if i.val < b then semVal (kc c 1 i) 0
  else iprop(atPos ER (kc c 1 i) 0 ∅ 0 ∗ creditP c 1 i ∗ parDst c i ∗ dutyTok ER (kc c 2 i) 0 0 ∗ dutyTok ER (kc (par c) 3 i) 0 0)

def fwdF (b v : ℕ) (i : Fin 24) : sProp 𝕄 :=
  if i.val < v then iprop(semVal (kc c 2 i) 0 ∗ lent X c i)
  else iprop(atPos ER (kc c 2 i) 0 ∅ 0 ∗ if i.val < b then creditP c 2 i else iprop(emp))

def getF (w : ℕ) (i : Fin 24) : sProp 𝕄 :=
  if i.val < w then iprop(semVal (kc c 3 i) 0 ∗ gift X c i)
  else iprop(atPos ER (kc c 3 i) 0 ∅ 0 ∗ creditP c 3 i)

/-- The state at the counts `a b u w v`, with `R` beside it. -/
def St (a b u w v : ℕ) (R : sProp 𝕄) : sProp 𝕄 :=
  iprop(recs X K ∗ (∃ W, owes (c : Thread nD τ) (oS c a + oF c b) W)
    ∗ bigSep Finset.univ (sendF X c a u) ∗ bigSep Finset.univ (srcF X c a b u) ∗ bigSep Finset.univ (recvF c b)
    ∗ bigSep Finset.univ (fwdF X c b v) ∗ bigSep Finset.univ (getF X c w) ∗ R)

end State

section Turns
variable (X : Dv → XC F) (c : Dv) (i : Fin 24)

/-! ### How each count turns one summand -/

theorem sendF_issue : bigSep Finset.univ (sendF X c i.val 0)
    ⊢ iprop((atPos ER (kc c 0 i) 0 ∅ 0 ∗ readyP c i)
        ∗ ((atPos ER (kc c 0 i) 0 ∅ 0 ∗ sentQ X c i) -∗ bigSep Finset.univ (sendF X c (i.val + 1) 0))) := by
  have h := bigSep_univ_update (Φ := sendF X c i.val 0) (Ψ := sendF X c (i.val + 1) 0) i fun j hj => by
    have hj : j.val ≠ i.val := fun e => hj (Fin.ext e)
    have e : (j.val < i.val + 1) = (j.val < i.val) := propext (by omega)
    simp only [sendF, e]
  have e1 : sendF X c i.val 0 i = iprop(atPos ER (kc c 0 i) 0 ∅ 0 ∗ readyP c i) := by
    unfold sendF; rw [if_neg (by omega), if_neg (by omega)]
  have e2 : sendF X c (i.val + 1) 0 i = iprop(atPos ER (kc c 0 i) 0 ∅ 0 ∗ sentQ X c i) := by
    unfold sendF; rw [if_neg (by omega), if_pos (by omega)]
  rw [e1, e2] at h; exact h

theorem sendF_wait : bigSep Finset.univ (sendF X c 24 i.val)
    ⊢ iprop((atPos ER (kc c 0 i) 0 ∅ 0 ∗ sentQ X c i)
        ∗ (semVal (kc c 0 i) 0 -∗ bigSep Finset.univ (sendF X c 24 (i.val + 1)))) := by
  have h := bigSep_univ_update (Φ := sendF X c 24 i.val) (Ψ := sendF X c 24 (i.val + 1)) i fun j hj => by
    have hj : j.val ≠ i.val := fun e => hj (Fin.ext e)
    have e : (j.val < i.val + 1) = (j.val < i.val) := propext (by omega)
    simp only [sendF, e]
  have e1 : sendF X c 24 i.val i = iprop(atPos ER (kc c 0 i) 0 ∅ 0 ∗ sentQ X c i) := by
    unfold sendF; rw [if_neg (by omega), if_pos (by omega)]
  have e2 : sendF X c 24 (i.val + 1) i = semVal (kc c 0 i) 0 := by
    unfold sendF; rw [if_pos (by omega)]
  rw [e1, e2] at h; exact h

theorem srcF_take {b : ℕ} (hb : i.val < b + 8) : bigSep Finset.univ (srcF X c i.val b 0)
    ⊢ iprop(srcP X c (lo i) ∗ bigSep Finset.univ (srcF X c (i.val + 1) b 0)) := by
  have h := bigSep_univ_update (Φ := srcF X c i.val b 0) (Ψ := srcF X c (i.val + 1) b 0) (lo i) fun j hj => by
    have hj : j.val ≠ i.val := fun e => hj (Fin.ext e)
    have e : (i.val + 1 ≤ j.val) = (i.val ≤ j.val) := propext (by omega)
    simp only [srcF, e]
  have e1 : srcF X c i.val b 0 (lo i) = srcP X c (lo i) := by
    unfold srcF; rw [if_pos]; right; simp only [lo]; omega
  have e2 : srcF X c (i.val + 1) b 0 (lo i) = iprop(emp) := by
    unfold srcF; rw [if_neg]; simp only [lo]; omega
  rw [e1, e2] at h
  iintro H
  ihave H := h $$ H
  icases H with ⟨H1, H2⟩
  isplitl [H1]; · iexact H1
  iapply H2; iempintro

theorem srcF_give {a : ℕ} (ha : a ≤ i.val + 8) :
    iprop(srcP X c (hi i) ∗ bigSep Finset.univ (srcF X c a i.val 0)) ⊢ bigSep Finset.univ (srcF X c a (i.val + 1) 0) := by
  have h := bigSep_univ_update (Φ := srcF X c a i.val 0) (Ψ := srcF X c a (i.val + 1) 0) (hi i) fun j hj => by
    have hj : j.val ≠ i.val + 8 := fun e => hj (Fin.ext e)
    have e : (j.val < i.val + 1 + 8) = (j.val < i.val + 8) := propext (by omega)
    simp only [srcF, e]
  have e1 : srcF X c a i.val 0 (hi i) = iprop(emp) := by
    unfold srcF; rw [if_neg]; simp only [hi]; omega
  have e2 : srcF X c a (i.val + 1) 0 (hi i) = srcP X c (hi i) := by
    unfold srcF; rw [if_pos]; right; simp only [hi]; omega
  rw [e1, e2] at h
  iintro ⟨H, HΦ⟩
  ihave HΦ := h $$ HΦ
  icases HΦ with ⟨-, HΦ⟩
  iapply HΦ; iexact H

theorem srcF_back : iprop(srcP X c (lo i) ∗ bigSep Finset.univ (srcF X c 24 24 i.val)) ⊢ bigSep Finset.univ (srcF X c 24 24 (i.val + 1)) := by
  have h := bigSep_univ_update (Φ := srcF X c 24 24 i.val) (Ψ := srcF X c 24 24 (i.val + 1)) (lo i) fun j hj => by
    have hj : j.val ≠ i.val := fun e => hj (Fin.ext e)
    have e : (j.val < i.val + 1) = (j.val < i.val) := propext (by omega)
    simp only [srcF, e]
  have e1 : srcF X c 24 24 i.val (lo i) = iprop(emp) := by
    unfold srcF; rw [if_neg]; simp only [lo]; omega
  have e2 : srcF X c 24 24 (i.val + 1) (lo i) = srcP X c (lo i) := by
    unfold srcF; rw [if_pos]; left; simp only [lo]; omega
  rw [e1, e2] at h
  iintro ⟨H, HΦ⟩
  ihave HΦ := h $$ HΦ
  icases HΦ with ⟨-, HΦ⟩
  iapply HΦ; iexact H

theorem recvF_turn : bigSep Finset.univ (recvF (F := F) c i.val)
    ⊢ iprop((atPos ER (kc c 1 i) 0 ∅ 0 ∗ creditP c 1 i ∗ parDst c i ∗ dutyTok ER (kc c 2 i) 0 0 ∗ dutyTok ER (kc (par c) 3 i) 0 0)
        ∗ (semVal (kc c 1 i) 0 -∗ bigSep Finset.univ (recvF (F := F) c (i.val + 1)))) := by
  have h := bigSep_univ_update (Φ := recvF (F := F) c i.val) (Ψ := recvF (F := F) c (i.val + 1)) i fun j hj => by
    have hj : j.val ≠ i.val := fun e => hj (Fin.ext e)
    have e : (j.val < i.val + 1) = (j.val < i.val) := propext (by omega)
    simp only [recvF, e]
  have e1 : recvF (F := F) c i.val i
      = iprop(atPos ER (kc c 1 i) 0 ∅ 0 ∗ creditP c 1 i ∗ parDst c i ∗ dutyTok ER (kc c 2 i) 0 0 ∗ dutyTok ER (kc (par c) 3 i) 0 0) := by
    unfold recvF; rw [if_neg (by omega)]
  have e2 : recvF (F := F) c (i.val + 1) i = semVal (kc c 1 i) 0 := by
    unfold recvF; rw [if_pos (by omega)]
  rw [e1, e2] at h; exact h

theorem fwdF_issue : iprop(creditP c 2 i ∗ bigSep Finset.univ (fwdF X c i.val 0)) ⊢ bigSep Finset.univ (fwdF X c (i.val + 1) 0) := by
  have h := bigSep_univ_update (Φ := fwdF X c i.val 0) (Ψ := fwdF X c (i.val + 1) 0) i fun j hj => by
    have hj : j.val ≠ i.val := fun e => hj (Fin.ext e)
    have e : (j.val < i.val + 1) = (j.val < i.val) := propext (by omega)
    simp only [fwdF, e]
  have e1 : fwdF X c i.val 0 i = iprop(atPos ER (kc c 2 i) 0 ∅ 0 ∗ emp) := by
    unfold fwdF; rw [if_neg (by omega), if_neg (by omega)]
  have e2 : fwdF X c (i.val + 1) 0 i = iprop(atPos ER (kc c 2 i) 0 ∅ 0 ∗ creditP c 2 i) := by
    unfold fwdF; rw [if_neg (by omega), if_pos (by omega)]
  rw [e1, e2] at h
  iintro ⟨H, HΦ⟩
  ihave HΦ := h $$ HΦ
  icases HΦ with ⟨⟨Ha, -⟩, HΦ⟩
  iapply HΦ
  isplitl [Ha]; · iexact Ha
  iexact H

theorem fwdF_wait : bigSep Finset.univ (fwdF X c 24 i.val)
    ⊢ iprop((atPos ER (kc c 2 i) 0 ∅ 0 ∗ creditP c 2 i)
        ∗ ((semVal (kc c 2 i) 0 ∗ lent X c i) -∗ bigSep Finset.univ (fwdF X c 24 (i.val + 1)))) := by
  have h := bigSep_univ_update (Φ := fwdF X c 24 i.val) (Ψ := fwdF X c 24 (i.val + 1)) i fun j hj => by
    have hj : j.val ≠ i.val := fun e => hj (Fin.ext e)
    have e : (j.val < i.val + 1) = (j.val < i.val) := propext (by omega)
    simp only [fwdF, e]
  have e1 : fwdF X c 24 i.val i = iprop(atPos ER (kc c 2 i) 0 ∅ 0 ∗ creditP c 2 i) := by
    unfold fwdF; rw [if_neg (by omega), if_pos (by omega)]
  have e2 : fwdF X c 24 (i.val + 1) i = iprop(semVal (kc c 2 i) 0 ∗ lent X c i) := by
    unfold fwdF; rw [if_pos (by omega)]
  rw [e1, e2] at h; exact h

theorem getF_turn : bigSep Finset.univ (getF X c i.val)
    ⊢ iprop((atPos ER (kc c 3 i) 0 ∅ 0 ∗ creditP c 3 i)
        ∗ ((semVal (kc c 3 i) 0 ∗ gift X c i) -∗ bigSep Finset.univ (getF X c (i.val + 1)))) := by
  have h := bigSep_univ_update (Φ := getF X c i.val) (Ψ := getF X c (i.val + 1)) i fun j hj => by
    have hj : j.val ≠ i.val := fun e => hj (Fin.ext e)
    have e : (j.val < i.val + 1) = (j.val < i.val) := propext (by omega)
    simp only [getF, e]
  have e1 : getF X c i.val i = iprop(atPos ER (kc c 3 i) 0 ∅ 0 ∗ creditP c 3 i) := by
    unfold getF; rw [if_neg (by omega)]
  have e2 : getF X c (i.val + 1) i = iprop(semVal (kc c 3 i) 0 ∗ gift X c i) := by
    unfold getF; rw [if_pos (by omega)]
  rw [e1, e2] at h; exact h

end Turns

end Cert.Gather
-- ==== Proof.Steps.lean ====
/-
# One operation of the body

For a link `i` of the line: its send, its receive together with the forward, the receive from the partner, and the two waits at
the end. Each is made under a condition on the device; where the condition fails the operation is left out.
-/
module

public import proofs.«01_k».proof.Proof.State

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The programs of the body. -/
abbrev PG (F : FTy → Type) [FloatOps F] (α : Type) := Prog (TpuEff nD τ sig (Elt F) Λ₀ .tc) α

section Steps
variable {X : Dv → XC F} {K : Dv × CI → ℕ} {c : Dv} {R : sProp (MT nD τ sig Unit (Elt F) ℕ UU ℕ)} {α : Type} {Q : α → sProp (MT nD τ sig Unit (Elt F) ℕ UU ℕ)} {Kp : PG F α}

theorem used_send {i : Fin 24} : used c 0 i ↔ rs c i := by unfold used; rw [if_pos rfl]
theorem used_other {k : Fin 4} (hk : k ≠ 0) {i : Fin 24} : used c k i ↔ rr c i := by unfold used; rw [if_neg hk]

theorem srcP_first {i : Fin 24} (hi : i.val < 8) : srcP X c (lo i) = xPts X c (xk c i) (qDir (i.val % 2)) := by
  unfold srcP; rw [dif_pos (show (lo i).val < 8 from hi)]
theorem srcP_later {i : Fin 24} (hi : 8 ≤ i.val) : srcP X c (lo i) = held X c (back i) := by
  unfold srcP; rw [dif_neg (show ¬ (lo i).val < 8 from by simp only [lo]; omega)]
theorem srcP_hi {i : Fin 24} : srcP X c (hi i) = held X c i := by
  unfold srcP; rw [dif_neg (show ¬ (hi i).val < 8 from by simp only [hi]; omega)]
  congr 1

theorem lineDst_pos {i : Fin 24} (h : rs c i) :
    lineDst (F := F) c i = iprop(∃ f, oPts (nxt (dir i) c) (rk (nxt (dir i) c) i) fullShare f) := if_pos h
theorem parDst_pos {i : Fin 24} (h : rr c i) : parDst (F := F) c i = iprop(∃ f, oPts (par c) (pk (par c) i) fullShare f) := if_pos h
theorem held_pos {i : Fin 24} (h : rr c i) : held X c i = oPts c (rk c i) fullShare.left (gath X c) := if_pos h
theorem held_neg {i : Fin 24} (h : ¬ rr c i) : held X c i = iprop(emp) := if_neg h
theorem lent_pos {i : Fin 24} (h : rr c i) : lent X c i = oPts c (rk c i) fullShare.right (gath X c) := if_pos h
theorem lent_neg {i : Fin 24} (h : ¬ rr c i) : lent X c i = iprop(emp) := if_neg h
theorem gift_pos {i : Fin 24} (h : rr c i) : gift X c i = oPts c (pk c i) fullShare (gath X c) := if_pos h
theorem gift_neg {i : Fin 24} (h : ¬ rr c i) : gift X c i = iprop(emp) := if_neg h
theorem creditP_pos {k : Fin 4} {i : Fin 24} (h : rr c i) : creditP (F := F) c k i = cred (tallyAt (kc c k i) () N) := if_pos h
theorem creditP_neg {k : Fin 4} {i : Fin 24} (h : ¬ rr c i) : creditP (F := F) c k i = iprop(emp) := if_neg h
theorem sentQ_pos {i : Fin 24} (h : rs c i) : sentQ X c i = cred (tallyAt (kc c 0 i) () N) := if_pos h
theorem sentQ_neg {i : Fin 24} (h : ¬ rs c i) : sentQ X c i = srcP X c (lo i) := if_neg h

/-- A send along the line, from whatever it reads. -/
theorem send_core {i : Fin 24} {b : ℕ} (hb : i.val < b + 8) (hr : rs c i)
    {off : Fin 2 → ℕ} {inb} (hoff : off = ![128 * rk (nxt (dir i) c) i, 0])
    {n : Dv} (hn : n = nxt (dir i) c) {sS sR : DmaSem sig} (hS : sS = enc 0 i) (hR : sR = enc 1 i)
    {src : Memref sig .tc .vmem S128x512 .f32} {q : PosShare TreeShare} {fs : Buf (Elt F) (src.view.loc (c : Thread nD τ))}
    (hsrc : srcP X c (lo i) = (src.view.loc (c : Thread nD τ) ↦[src.view.set]{q} fs))
    (hdst : ∀ fd : OC F, ∀ j ∈ oChunk (rk (nxt (dir i) c) i),
      (oView off inb).view.write (Elt F) fd (src.view.read (Elt F) fs) Finset.univ j = gath X (nxt (dir i) c) j)
    {hsc : (oView off inb : Memref sig (Dev.tc n : Thread nD τ).2.kind .vmem S128x512 .f32).view.ref.isScScratch = false}
    {hw : src.view.WordExact} {hw' : (oView off inb).view.WordExact}
    {ht : DmaTarget.Typed .vmem (.dma sR) (.remote (Dev.tc n : Thread nD τ) (oView off inb) (.dma sS) hsc)}
    {k : PUnit → PG F α} (hk : St X K c (i.val + 1) b 0 0 0 R ⊢ run c (k ⟨⟩) Q) :
    St X K c i.val b 0 0 0 R
      ⊢ run c (.op (.enqueueDma src (.remote (Dev.tc n : Thread nD τ) (oView off inb) (.dma sS) hsc) (.dma sR) hw hw' ht) k) Q := by
  have hto : oS c i.val + oF c b = oS c (i.val + 1) + oF c b + tallyAt (kc (nxt (dir i) c) 1 i) () N := by
    rw [oS_step, tS, if_pos hr, add_right_comm]
  have h1 : (src.view.loc (c : Thread nD τ) ↦[src.view.set]{q} fs) ⊢ dmaPay X c 0 i := Entails.of_eq hsrc.symm
  have h2 : ∀ fd : OC F, oPts (nxt (dir i) c) (rk (nxt (dir i) c) i) fullShare
      ((oView off inb).view.write (Elt F) fd (src.view.read (Elt F) fs) Finset.univ) ⊢ dmaPay X (nxt (dir i) c) 1 i :=
    fun fd => Entails.of_eq (oPts_congr (hdst fd))
  unfold St
  iintro ⟨#HR, ⟨%W, HO⟩, Hs, Hsrc, Hrv, Hf, Hg, HRR⟩
  ihave Hs := (sendF_issue X c i) $$ Hs
  icases Hs with ⟨⟨Hat, Hrdy⟩, Hs⟩
  ihave Hsrc := (srcF_take X c i hb) $$ Hsrc
  icases Hsrc with ⟨Hp, Hsrc⟩
  ihave Hp := (Entails.of_eq hsrc) $$ Hp
  unfold readyP
  icases Hrdy with ⟨Ht₁, Ht₂, Hd⟩
  ihave Hd := (Entails.of_eq (lineDst_pos hr)) $$ Hd
  iapply (copy_core X K (c := c) (c' := nxt (dir i) c) (k₁ := 0) (k₂ := 1) (i := i) hn (used_send.mpr hr)
    ((used_other (by decide)).mpr ((rs_iff c i).mp hr)) hoff hS hR (src := src) (q := q) (fs := fs) h1 h2
    (oS c (i.val + 1) + oF c b) hto (hsc := hsc) (hw := hw) (hw' := hw') (ht := ht) (W := W) (Q := Q) (k := k)) $$ [HO Hp Hd Ht₁ Ht₂]
  · isplitr; · iexact HR
    isplitl [Hp]; · iexact Hp
    isplitl [Hd]; · iexact Hd
    isplitl [HO]; · iexact HO
    isplitl [Ht₁]; · iexact Ht₁
    iexact Ht₂
  iintro ⟨Hc, HO⟩
  iapply hk
  unfold St
  isplitr; · iexact HR
  isplitl [HO]; · iexists _; iexact HO
  isplitl [Hs Hat Hc]
  · iapply Hs
    isplitl [Hat]; · iexact Hat
    iapply (Entails.of_eq (sentQ_pos hr).symm); iexact Hc
  isplitl [Hsrc]; · iexact Hsrc
  isplitl [Hrv]; · iexact Hrv
  isplitl [Hf]; · iexact Hf
  isplitl [Hg]; · iexact Hg
  iexact HRR

/-- A send that is not made. -/
theorem send_skip {i : Fin 24} {b : ℕ} (hb : i.val < b + 8) (hr : ¬ rs c i) :
    St X K c i.val b 0 0 0 R ⊢ St X K c (i.val + 1) b 0 0 0 R := by
  have hto : oS c i.val = oS c (i.val + 1) := by rw [oS_step, tS, if_neg hr, add_zero]
  unfold St
  iintro ⟨#HR, HO, Hs, Hsrc, Hrv, Hf, Hg, HRR⟩
  ihave Hs := (sendF_issue X c i) $$ Hs
  icases Hs with ⟨⟨Hat, -⟩, Hs⟩
  ihave Hsrc := (srcF_take X c i hb) $$ Hsrc
  icases Hsrc with ⟨Hp, Hsrc⟩
  isplitr; · iexact HR
  isplitl [HO]; · rw [← hto]; iexact HO
  isplitl [Hs Hat Hp]
  · iapply Hs
    isplitl [Hat]; · iexact Hat
    iapply (Entails.of_eq (sentQ_neg hr).symm); iexact Hp
  isplitl [Hsrc]; · iexact Hsrc
  isplitl [Hrv]; · iexact Hrv
  isplitl [Hf]; · iexact Hf
  isplitl [Hg]; · iexact Hg
  iexact HRR

/-- Send on a link of the first step: a chunk of `x`. -/
theorem step_first (i : Fin 24) {b : ℕ} (hb : i.val < 8) {cond : Dv → BitVec 1} {off off' : Dv → Fin 2 → ℕ}
    {inb : ∀ c, cond c = 1#1 → ∀ a, off c a + S128x512.size a ≤ S4096x512.size a}
    {inb' : ∀ c, cond c = 1#1 → ∀ a, off' c a + S128x512.size a ≤ S1024x512.size a}
    {dv : Dv → ℕ} {dvlt : ∀ c, cond c = 1#1 → dv c < nD} {sS sR : DmaSem sig}
    (hk : St X K c (i.val + 1) b 0 0 0 R ⊢ run c Kp Q)
    (hc : ∀ c, cond c = 1#1 ↔ rs c i := by decide +kernel)
    (hoff : ∀ c, rs c i → off c = ![128 * rk (nxt (dir i) c) i, 0] := by decide +kernel)
    (hoff' : ∀ c, rs c i → off' c = ![128 * xk c i, 0] := by decide +kernel)
    (hdv : ∀ c, rs c i → dv c = (nxt (dir i) c).val := by decide +kernel)
    (hS : sS = enc 0 i := by decide +kernel) (hR : sR = enc 1 i := by decide +kernel) :
    St X K c i.val b 0 0 0 R ⊢ run c (dite (cond c = 1#1)
      (fun h => Prog.lift (.enqueueDma (xView (off' c) (inb' c h))
        (.remote (Dev.tc (⟨dv c, dvlt c h⟩ : Dev nD)) (oView (off c) (inb c h)) (.dma sS)) (.dma sR)
        (View.wordExact_bits rfl) (View.wordExact_bits rfl) ⟨⟨rfl, Or.inl rfl⟩, trivial⟩) >>= fun _ => Kp)
      (fun _ => Kp)) Q := by
  by_cases h : cond c = 1#1
  · have hr := (hc c).mp h
    rw [dif_pos h]
    simp only [Prog.lift, Prog.bind_op, Prog.bind_ret]
    have hx : xk c i < 8 := by have := sub_lt i; have := xOf_lt c; unfold xk; omega
    refine send_core (by omega) hr (hoff c hr) (Fin.ext (hdv c hr)) hS hR (q := qDir (i.val % 2)) (fs := X c) ?_ (fun fd j hj => ?_) hk
    · rw [srcP_first hb, xPts, set_xView (hoff' c hr)]
    · rw [land_xView (hoff c hr) (hoff' c hr) (rk_first hr hb) hx fd (X c) j hj, gath,
        srcDev_first hr hb (Finset.mem_filter.mp hj).2]
  · rw [dif_neg h]
    exact (send_skip (by omega) (fun hr => h ((hc c).mpr hr))).trans hk

/-- Send on a link of a later step: the chunk received 8 links before. -/
theorem step_later (i : Fin 24) {b : ℕ} (hb : 8 ≤ i.val) (hb' : i.val < b + 8) {cond : Dv → BitVec 1} {off off' : Dv → Fin 2 → ℕ}
    {inb : ∀ c, cond c = 1#1 → ∀ a, off c a + S128x512.size a ≤ S4096x512.size a}
    {inb' : ∀ c, cond c = 1#1 → ∀ a, off' c a + S128x512.size a ≤ S4096x512.size a}
    {dv : Dv → ℕ} {dvlt : ∀ c, cond c = 1#1 → dv c < nD} {sS sR : DmaSem sig}
    (hk : St X K c (i.val + 1) b 0 0 0 R ⊢ run c Kp Q)
    (hc : ∀ c, cond c = 1#1 ↔ rs c i := by decide +kernel)
    (hoff : ∀ c, rs c i → off c = ![128 * rk c (back i), 0] := by decide +kernel)
    (hoff' : ∀ c, rs c i → off' c = ![128 * rk c (back i), 0] := by decide +kernel)
    (hdv : ∀ c, rs c i → dv c = (nxt (dir i) c).val := by decide +kernel)
    (hS : sS = enc 0 i := by decide +kernel) (hR : sR = enc 1 i := by decide +kernel) :
    St X K c i.val b 0 0 0 R ⊢ run c (dite (cond c = 1#1)
      (fun h => Prog.lift (.enqueueDma (oView (off' c) (inb' c h))
        (.remote (Dev.tc (⟨dv c, dvlt c h⟩ : Dev nD)) (oView (off c) (inb c h)) (.dma sS)) (.dma sR)
        (View.wordExact_bits rfl) (View.wordExact_bits rfl) ⟨⟨rfl, Or.inl rfl⟩, trivial⟩) >>= fun _ => Kp)
      (fun _ => Kp)) Q := by
  by_cases h : cond c = 1#1
  · have hr := (hc c).mp h
    rw [dif_pos h]
    simp only [Prog.lift, Prog.bind_op, Prog.bind_ret]
    have hrk := rk_back hr hb
    refine send_core hb' hr (by rw [hrk]; exact hoff c hr) (Fin.ext (hdv c hr)) hS hR (q := fullShare.left) (fs := gath X c) ?_ (fun fd j hj => ?_) hk
    · rw [srcP_later hb, held_pos (rr_back hr hb), oPts, set_oView (hoff' c hr)]
    · rw [hrk] at hj
      rw [land_oView (hoff c hr) (hoff' c hr) fd (gath X c) j hj]
      exact gath_congr X (fun r hr' => srcDev_line hr (by rw [hrk]; exact hr')) j hj
  · rw [dif_neg h]
    exact (send_skip hb' (fun hr => h ((hc c).mpr hr))).trans hk

/-- A receive with its forward. -/
theorem recv_core {i : Fin 24} {a : ℕ} (ha : 8 * (i.val / 8 + 1) ≤ a) (ha' : a ≤ i.val + 8) (hr : rr c i)
    {o₁ o₂ off off' : Fin 2 → ℕ} {b₁ b₂ inb inb'} (hoff : off = ![128 * rk c i, 0]) (hoff' : off' = ![128 * rk c i, 0])
    {n : Dv} (hn : n = par c) {s sS sR : DmaSem sig} (hs : s = enc 1 i) (hS : sS = enc 2 i) (hR : sR = enc 3 i)
    {hu : (oView o₁ b₁).view.WordExact} {hu' : (oView o₂ b₂).view.WordExact}
    {hsc : (oView off inb : Memref sig (Dev.tc n : Thread nD τ).2.kind .vmem S128x512 .f32).view.ref.isScScratch = false}
    {hw : (oView off' inb').view.WordExact} {hw' : (oView off inb).view.WordExact}
    {ht : DmaTarget.Typed .vmem (.dma sR) (.remote (Dev.tc n : Thread nD τ) (oView off inb) (.dma sS) hsc)}
    {k : PUnit → PG F α} (hk : St X K c a (i.val + 1) 0 0 0 R ⊢ run c (k ⟨⟩) Q) :
    St X K c a i.val 0 0 0 R ⊢ run c (.op (.waitDma2 s (oView o₁ b₁) (oView o₂ b₂) hu hu') fun _ =>
      .op (.enqueueDma (oView off' inb') (.remote (Dev.tc n : Thread nD τ) (oView off inb) (.dma sS) hsc) (.dma sR) hw hw' ht) k) Q := by
  have hto : oS c a + oF c i.val = oS c a + oF c (i.val + 1) + tallyAt (kc (par c) 3 i) () N := by
    rw [oF_step, tF, if_pos hr, add_assoc]
  have h1 : ((oView off' inb').view.loc (c : Thread nD τ) ↦[(oView off' inb').view.set]{fullShare.right} gath X c) ⊢ dmaPay X c 2 i := by
    rw [set_oView hoff']; exact Entails.of_eq rfl
  have h2 : ∀ fd : OC F, oPts (par c) (pk (par c) i) fullShare
      ((oView off inb).view.write (Elt F) fd ((oView off' inb').view.read (Elt F) (gath X c)) Finset.univ) ⊢ dmaPay X (par c) 3 i :=
    fun fd => Entails.of_eq (oPts_congr fun j hj => by
      rw [pk_par] at hj
      rw [land_oView hoff hoff' fd (gath X c) j hj]
      exact gath_congr X (fun r hr' => srcDev_par hr hr') j hj)
  have h3 : oPts c (rk c i) fullShare.right (gath X c)
      ⊢ ((oView off' inb').view.loc (c : Thread nD τ) ↦[(oView off' inb').view.set]{fullShare.right} gath X c) := by
    rw [set_oView hoff']; exact Entails.of_eq rfl
  unfold St
  iintro ⟨#HR, ⟨%W, HO⟩, Hs, Hsrc, Hrv, Hf, Hg, HRR⟩
  ihave Hrv := (recvF_turn c i) $$ Hrv
  icases Hrv with ⟨⟨Hat, Hc, Hd, Ht₁, Ht₂⟩, Hrv⟩
  ihave Hc := (Entails.of_eq (creditP_pos hr)) $$ Hc
  ihave Hd := (Entails.of_eq (parDst_pos hr)) $$ Hd
  ihave HM := (recs_mayWait X K c i (a := a) (b := i.val) ha) $$ HR
  iapply (wait_core X K (c := c) (k := 1) (i := i) ((used_other (by decide)).mpr hr) hs (O := oS c a + oF c i.val) (W := W)
    (hw := hu) (hw' := hu') (Q := Q)) $$ [HO Hc HM Hat]
  · isplitr; · iexact HR
    isplitl [Hc]; · iexact Hc
    isplitl [HO]; · iexact HO
    isplitl [HM]; · iexact HM
    iexact Hat
  iintro ⟨⟨%W', HO⟩, Hz, Hp⟩
  ihave Hp := (show dmaPay X c 1 i ⊢ _ from (oPts_halves c (rk c i) (gath X c)).1) $$ Hp
  icases Hp with ⟨Hl, Hr⟩
  ihave Hr := h3 $$ Hr
  iapply (copy_core X K (c := c) (c' := par c) (k₁ := 2) (k₂ := 3) (i := i) hn ((used_other (by decide)).mpr hr)
    ((used_other (by decide)).mpr ((rr_par c i).mpr hr)) (by rw [hoff, pk_par]) hS hR
    (src := oView off' inb') (q := fullShare.right) (fs := gath X c) h1 h2 (oS c a + oF c (i.val + 1)) hto
    (hsc := hsc) (hw := hw) (hw' := hw') (ht := ht) (W := W') (Q := Q) (k := k)) $$ [HO Hr Hd Ht₁ Ht₂]
  · isplitr; · iexact HR
    isplitl [Hr]; · iexact Hr
    isplitl [Hd]; · iexact Hd
    isplitl [HO]; · iexact HO
    isplitl [Ht₁]; · iexact Ht₁
    iexact Ht₂
  iintro ⟨Hc, HO⟩
  iapply hk
  unfold St
  isplitr; · iexact HR
  isplitl [HO]; · iexists _; iexact HO
  isplitl [Hs]; · iexact Hs
  isplitl [Hsrc Hl]
  · iapply (srcF_give X c i ha')
    isplitl [Hl]
    · iapply (Entails.of_eq ((srcP_hi (X := X) (c := c) (i := i)).trans (held_pos hr)).symm); iexact Hl
    iexact Hsrc
  isplitl [Hrv Hz]
  · iapply Hrv; iexact Hz
  isplitl [Hf Hc]
  · iapply (fwdF_issue X c i)
    isplitl [Hc]
    · iapply (Entails.of_eq (creditP_pos hr).symm); iexact Hc
    iexact Hf
  isplitl [Hg]; · iexact Hg
  iexact HRR

/-- A receive with its forward that is not made. -/
theorem recv_skip {i : Fin 24} {a : ℕ} (ha' : a ≤ i.val + 8) (hr : ¬ rr c i) (hk : St X K c a (i.val + 1) 0 0 0 R ⊢ run c Kp Q) :
    St X K c a i.val 0 0 0 R ⊢ run c Kp Q := by
  have hto : oF c i.val = oF c (i.val + 1) := by rw [oF_step, tF, if_neg hr, add_zero]
  unfold St
  iintro ⟨#HR, HO, Hs, Hsrc, Hrv, Hf, Hg, HRR⟩
  ihave Hrv := (recvF_turn c i) $$ Hrv
  icases Hrv with ⟨⟨Hat, -⟩, Hrv⟩
  imod (skip_core X K (c := c) (k := 1) (i := i) (fun h => hr ((used_other (by decide)).mp h))) $$ [Hat] with Hz
  · isplitr; · iexact HR
    iexact Hat
  iapply hk
  unfold St
  rw [← hto]
  isplitr; · iexact HR
  isplitl [HO]; · iexact HO
  isplitl [Hs]; · iexact Hs
  isplitl [Hsrc]
  · iapply (srcF_give X c i ha')
    isplitr
    · iapply (Entails.of_eq ((srcP_hi (X := X) (c := c) (i := i)).trans (held_neg hr)).symm); iempintro
    iexact Hsrc
  isplitl [Hrv Hz]
  · iapply Hrv; iexact Hz
  isplitl [Hf]
  · iapply (fwdF_issue X c i)
    isplitr
    · iapply (Entails.of_eq (creditP_neg hr).symm); iempintro
    iexact Hf
  isplitl [Hg]; · iexact Hg
  iexact HRR

/-- A receive with its forward to the partner, made where a chunk comes. -/
theorem step_recv (i : Fin 24) {a : ℕ} (ha : 8 * (i.val / 8 + 1) ≤ a) (ha' : a ≤ i.val + 8) {cond : Dv → BitVec 1}
    {o₁ o₂ off off' : Dv → Fin 2 → ℕ}
    {b₁ : ∀ c, cond c = 1#1 → ∀ a, o₁ c a + S128x512.size a ≤ S4096x512.size a}
    {b₂ : ∀ c, cond c = 1#1 → ∀ a, o₂ c a + S128x512.size a ≤ S4096x512.size a}
    {inb : ∀ c, cond c = 1#1 → ∀ a, off c a + S128x512.size a ≤ S4096x512.size a}
    {inb' : ∀ c, cond c = 1#1 → ∀ a, off' c a + S128x512.size a ≤ S4096x512.size a}
    {dv : Dv → ℕ} {dvlt : ∀ c, cond c = 1#1 → dv c < nD} {s sS sR : DmaSem sig}
    (hk : St X K c a (i.val + 1) 0 0 0 R ⊢ run c Kp Q)
    (hc : ∀ c, cond c = 1#1 ↔ rr c i := by decide +kernel)
    (hoff : ∀ c, rr c i → off c = ![128 * rk c i, 0] := by decide +kernel)
    (hoff' : ∀ c, rr c i → off' c = ![128 * rk c i, 0] := by decide +kernel)
    (hdv : ∀ c, rr c i → dv c = (par c).val := by decide +kernel)
    (hs : s = enc 1 i := by decide +kernel) (hS : sS = enc 2 i := by decide +kernel) (hR : sR = enc 3 i := by decide +kernel) :
    St X K c a i.val 0 0 0 R ⊢ run c (dite (cond c = 1#1)
      (fun h => Prog.lift (.waitDma2 s (oView (o₁ c) (b₁ c h)) (oView (o₂ c) (b₂ c h)) (View.wordExact_bits rfl) (View.wordExact_bits rfl)) >>= fun _ =>
        Prog.lift (.enqueueDma (oView (off' c) (inb' c h))
          (.remote (Dev.tc (⟨dv c, dvlt c h⟩ : Dev nD)) (oView (off c) (inb c h)) (.dma sS)) (.dma sR)
          (View.wordExact_bits rfl) (View.wordExact_bits rfl) ⟨⟨rfl, Or.inl rfl⟩, trivial⟩) >>= fun _ => Kp)
      (fun _ => Kp)) Q := by
  by_cases h : cond c = 1#1
  · have hr := (hc c).mp h
    rw [dif_pos h]
    simp only [Prog.lift, Prog.bind_op, Prog.bind_ret]
    exact recv_core ha ha' hr (hoff c hr) (hoff' c hr) (Fin.ext (hdv c hr)) hs hS hR hk
  · rw [dif_neg h]
    exact recv_skip ha' (fun hr => h ((hc c).mpr hr)) hk

/-- A wait after everything owed has been paid: from a state that holds the cell at its start beside `D`, to one that holds it
    closed beside `P`. Where a copy completes on the cell `D` is its credit and `P` what the copy hands over; else `D` is `P`. -/
theorem step_wait (k : Fin 4) (i : Fin 24) {S S' D P : sProp 𝕄}
    (hS : S ⊢ iprop(recs X K ∗ (∃ W, owes (c : Thread nD τ) (oS c 24 + oF c 24) W) ∗ (atPos ER (kc c k i) 0 ∅ 0 ∗ D)
      ∗ ((∃ W, owes (c : Thread nD τ) (oS c 24 + oF c 24) W) -∗ (semVal (kc c k i) 0 ∗ P) -∗ S')))
    (hD : used c k i → D ⊢ cred (tallyAt (kc c k i) () N)) (hP : used c k i → dmaPay X c k i ⊢ P) (hN : ¬ used c k i → D ⊢ P)
    {cond : Dv → BitVec 1} {o₁ o₂ : Dv → Fin 2 → ℕ}
    {b₁ : ∀ c, cond c = 1#1 → ∀ a, o₁ c a + S128x512.size a ≤ S4096x512.size a}
    {b₂ : ∀ c, cond c = 1#1 → ∀ a, o₂ c a + S128x512.size a ≤ S4096x512.size a} {s : DmaSem sig}
    (hk : S' ⊢ run c Kp Q) (hc : cond c = 1#1 ↔ used c k i) (hs : s = enc k i) :
    S ⊢ run c (dite (cond c = 1#1)
      (fun h => Prog.lift (.waitDma2 s (oView (o₁ c) (b₁ c h)) (oView (o₂ c) (b₂ c h)) (View.wordExact_bits rfl) (View.wordExact_bits rfl)) >>= fun _ => Kp)
      (fun _ => Kp)) Q := by
  refine hS.trans ?_
  have h0 : oS c 24 + oF c 24 = 0 := by rw [oS_end, oF_end, add_zero]
  by_cases h : cond c = 1#1
  · have hu := hc.mp h
    rw [dif_pos h]
    simp only [Prog.lift, Prog.bind_op, Prog.bind_ret]
    have hM : (iprop(emp) : sProp 𝕄) ⊢ MayWait (c : Thread nD τ) (.dma (enc k i)) () (oS c 24 + oF c 24) := by
      rw [h0, MayWait_zero]; exact BIBase.Entails.rfl
    iintro ⟨#HR, ⟨%W, HO⟩, ⟨Hat, HD⟩, HS⟩
    ihave HD := (hD hu) $$ HD
    iapply (wait_core X K (c := c) (k := k) (i := i) hu hs (O := oS c 24 + oF c 24) (W := W) (Q := Q)) $$ [HO HD Hat]
    · isplitr; · iexact HR
      isplitl [HD]; · iexact HD
      isplitl [HO]; · iexact HO
      isplitr; · iapply hM; iempintro
      iexact Hat
    iintro ⟨HO, Hz, Hp⟩
    ihave Hp := (hP hu) $$ Hp
    iapply hk
    iapply HS $$ HO
    isplitl [Hz]; · iexact Hz
    iexact Hp
  · have hu : ¬ used c k i := fun hu => h (hc.mpr hu)
    rw [dif_neg h]
    iintro ⟨#HR, HO, ⟨Hat, HD⟩, HS⟩
    ihave HD := (hN hu) $$ HD
    imod (skip_core X K (c := c) (k := k) (i := i) hu) $$ [Hat] with Hz
    · isplitr; · iexact HR
      iexact Hat
    iapply hk
    iapply HS $$ HO
    isplitl [Hz]; · iexact Hz
    iexact HD

/-- The receive of a chunk the partner forwards. -/
theorem step_get (i : Fin 24) {cond : Dv → BitVec 1} {o₁ o₂ : Dv → Fin 2 → ℕ}
    {b₁ : ∀ c, cond c = 1#1 → ∀ a, o₁ c a + S128x512.size a ≤ S4096x512.size a}
    {b₂ : ∀ c, cond c = 1#1 → ∀ a, o₂ c a + S128x512.size a ≤ S4096x512.size a} {s : DmaSem sig}
    (hk : St X K c 24 24 0 (i.val + 1) 0 R ⊢ run c Kp Q)
    (hc : ∀ c, cond c = 1#1 ↔ rr c i := by decide +kernel) (hs : s = enc 3 i := by decide +kernel) :
    St X K c 24 24 0 i.val 0 R ⊢ run c (dite (cond c = 1#1)
      (fun h => Prog.lift (.waitDma2 s (oView (o₁ c) (b₁ c h)) (oView (o₂ c) (b₂ c h)) (View.wordExact_bits rfl) (View.wordExact_bits rfl)) >>= fun _ => Kp)
      (fun _ => Kp)) Q := by
  refine step_wait (X := X) (K := K) 3 i (D := creditP c 3 i) (P := gift X c i) ?_
    (fun h => Entails.of_eq (creditP_pos ((used_other (by decide)).mp h)))
    (fun h => Entails.of_eq (gift_pos ((used_other (by decide)).mp h)).symm)
    (fun h => Entails.of_eq ((creditP_neg (fun h' => h ((used_other (by decide)).mpr h'))).trans
      (gift_neg (fun h' => h ((used_other (by decide)).mpr h'))).symm)) hk ((hc c).trans (used_other (by decide)).symm) hs
  unfold St
  iintro ⟨#HR, HO, Hs, Hsrc, Hrv, Hf, Hg, HRR⟩
  ihave Hg := (getF_turn X c i) $$ Hg
  icases Hg with ⟨Hg', Hg⟩
  isplitr; · iexact HR
  isplitl [HO]; · iexact HO
  isplitl [Hg']; · iexact Hg'
  iintro HO Hz
  isplitr; · iexact HR
  isplitl [HO]; · iexact HO
  isplitl [Hs]; · iexact Hs
  isplitl [Hsrc]; · iexact Hsrc
  isplitl [Hrv]; · iexact Hrv
  isplitl [Hf]; · iexact Hf
  isplitl [Hg Hz]; · iapply Hg; iexact Hz
  iexact HRR

/-- The wait for a send. -/
theorem step_sent (i : Fin 24) {v : ℕ} {cond : Dv → BitVec 1} {o₁ o₂ : Dv → Fin 2 → ℕ}
    {b₁ : ∀ c, cond c = 1#1 → ∀ a, o₁ c a + S128x512.size a ≤ S4096x512.size a}
    {b₂ : ∀ c, cond c = 1#1 → ∀ a, o₂ c a + S128x512.size a ≤ S4096x512.size a} {s : DmaSem sig}
    (hk : St X K c 24 24 (i.val + 1) 24 v R ⊢ run c Kp Q)
    (hc : ∀ c, cond c = 1#1 ↔ rs c i := by decide +kernel) (hs : s = enc 0 i := by decide +kernel) :
    St X K c 24 24 i.val 24 v R ⊢ run c (dite (cond c = 1#1)
      (fun h => Prog.lift (.waitDma2 s (oView (o₁ c) (b₁ c h)) (oView (o₂ c) (b₂ c h)) (View.wordExact_bits rfl) (View.wordExact_bits rfl)) >>= fun _ => Kp)
      (fun _ => Kp)) Q := by
  refine step_wait (X := X) (K := K) 0 i (D := sentQ X c i) (P := srcP X c (lo i)) ?_
    (fun h => Entails.of_eq (sentQ_pos (used_send.mp h)))
    (fun h => BIBase.Entails.rfl)
    (fun h => Entails.of_eq (sentQ_neg (fun h' => h (used_send.mpr h')))) hk ((hc c).trans used_send.symm) hs
  unfold St
  iintro ⟨#HR, HO, Hs, Hsrc, Hrv, Hf, Hg, HRR⟩
  ihave Hs := (sendF_wait X c i) $$ Hs
  icases Hs with ⟨Hs', Hs⟩
  isplitr; · iexact HR
  isplitl [HO]; · iexact HO
  isplitl [Hs']; · iexact Hs'
  iintro HO ⟨Hz, Hp⟩
  isplitr; · iexact HR
  isplitl [HO]; · iexact HO
  isplitl [Hs Hz]; · iapply Hs; iexact Hz
  isplitl [Hsrc Hp]
  · iapply (srcF_back X c i)
    isplitl [Hp]; · iexact Hp
    iexact Hsrc
  isplitl [Hrv]; · iexact Hrv
  isplitl [Hf]; · iexact Hf
  isplitl [Hg]; · iexact Hg
  iexact HRR

/-- The wait for a forward. -/
theorem step_fwd (i : Fin 24) {u : ℕ} {cond : Dv → BitVec 1} {o₁ o₂ : Dv → Fin 2 → ℕ}
    {b₁ : ∀ c, cond c = 1#1 → ∀ a, o₁ c a + S128x512.size a ≤ S4096x512.size a}
    {b₂ : ∀ c, cond c = 1#1 → ∀ a, o₂ c a + S128x512.size a ≤ S4096x512.size a} {s : DmaSem sig}
    (hk : St X K c 24 24 u 24 (i.val + 1) R ⊢ run c Kp Q)
    (hc : ∀ c, cond c = 1#1 ↔ rr c i := by decide +kernel) (hs : s = enc 2 i := by decide +kernel) :
    St X K c 24 24 u 24 i.val R ⊢ run c (dite (cond c = 1#1)
      (fun h => Prog.lift (.waitDma2 s (oView (o₁ c) (b₁ c h)) (oView (o₂ c) (b₂ c h)) (View.wordExact_bits rfl) (View.wordExact_bits rfl)) >>= fun _ => Kp)
      (fun _ => Kp)) Q := by
  refine step_wait (X := X) (K := K) 2 i (D := creditP c 2 i) (P := lent X c i) ?_
    (fun h => Entails.of_eq (creditP_pos ((used_other (by decide)).mp h)))
    (fun h => Entails.of_eq (lent_pos ((used_other (by decide)).mp h)).symm)
    (fun h => Entails.of_eq ((creditP_neg (fun h' => h ((used_other (by decide)).mpr h'))).trans
      (lent_neg (fun h' => h ((used_other (by decide)).mpr h'))).symm)) hk ((hc c).trans (used_other (by decide)).symm) hs
  unfold St
  iintro ⟨#HR, HO, Hs, Hsrc, Hrv, Hf, Hg, HRR⟩
  ihave Hf := (fwdF_wait X c i) $$ Hf
  icases Hf with ⟨Hf', Hf⟩
  isplitr; · iexact HR
  isplitl [HO]; · iexact HO
  isplitl [Hf']; · iexact Hf'
  iintro HO Hz
  isplitr; · iexact HR
  isplitl [HO]; · iexact HO
  isplitl [Hs]; · iexact Hs
  isplitl [Hsrc]; · iexact Hsrc
  isplitl [Hrv]; · iexact Hrv
  isplitl [Hf Hz]; · iapply Hf; iexact Hz
  isplitl [Hg]; · iexact Hg
  iexact HRR

end Steps

end Cert.Gather
-- ==== Proof.Start.lean ====
/-
# The start of the body: the signals and the barrier

Each signal lends the chunks the signalled device will write here; the wait takes the chunks this device will write elsewhere.
-/
module

public import proofs.«01_k».proof.Proof.Steps
public import proofs.«01_k».proof.Proof.Gen.KernelIdeal.Skeleton

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Two families merge into one, summand by summand. -/
theorem zip_mono {I : Type} [Fintype I] {Φ Ψ Θ : I → sProp 𝕄} (h : ∀ i, iprop(Φ i ∗ Ψ i) ⊢ Θ i) :
    iprop(bigSep Finset.univ Φ ∗ bigSep Finset.univ Ψ) ⊢ bigSep Finset.univ Θ :=
  (Entails.of_eq (bigSep_sep Finset.univ Φ Ψ).symm).trans (bigSep_mono fun i _ => h i)

section Start
variable {X : Dv → XC F} {K : Dv × CI → ℕ} {c : Dv} {α : Type} {Q : α → sProp (MT nD τ sig Unit (Elt F) ℕ UU ℕ)} {Kp : PG F α}

/-- Chunks of this device that others write, at whatever contents: link `i`'s from the line, and from the partner. -/
def lineOwn (c : Dv) (i : Fin 24) : sProp 𝕄 := if rr c i then iprop(∃ f, oPts c (rk c i) fullShare f) else iprop(emp)
def parOwn (c : Dv) (i : Fin 24) : sProp 𝕄 := if rr c i then iprop(∃ f, oPts c (pk c i) fullShare f) else iprop(emp)
/-- Of the first, those that come in direction `d`. -/
def dirOwn (c : Dv) (d : ℕ) : sProp 𝕄 := bigSep Finset.univ fun i => if dir i = d then lineOwn (F := F) c i else iprop(emp)

theorem lineDst_own {c c' : Dv} {i : Fin 24} (h : nxt (dir i) c' = c) : lineDst (F := F) c' i = lineOwn c i := by
  unfold lineDst lineOwn
  rw [h]
  by_cases hr : rr c i
  · rw [if_pos hr, if_pos ((rs_iff c' i).mpr (by rw [h]; exact hr))]
  · rw [if_neg hr, if_neg (fun h' => hr (by have := (rs_iff c' i).mp h'; rwa [h] at this))]

theorem parDst_own {c : Dv} (i : Fin 24) : parDst (F := F) (par c) i = parOwn c i := by
  unfold parDst parOwn
  rw [par_par]
  by_cases hr : rr c i
  · rw [if_pos hr, if_pos ((rr_par c i).mpr hr)]
  · rw [if_neg hr, if_neg (fun h' => hr ((rr_par c i).mp h'))]

theorem barPay_dir {c c' : Dv} (d : Fin 3) (hd : d ≠ 2) (h : nxt d.val c' = c) : barPay (F := F) c' d = dirOwn c d.val := by
  unfold barPay dirOwn
  rw [if_neg hd]
  refine bigSep_congr fun i _ => ?_
  by_cases hi : dir i = d.val
  · rw [if_pos hi, if_pos hi]; exact lineDst_own (by rw [hi]; exact h)
  · rw [if_neg hi, if_neg hi]

theorem barPay_par {c : Dv} : barPay (F := F) (par c) 2 = bigSep Finset.univ (parOwn c) := by
  unfold barPay
  rw [if_pos rfl]
  exact bigSep_congr fun i _ => parDst_own i

theorem amount_bar (c : Dv) (d) : (gRd X).amount (barCell c) 0 d = 1 := rfl
theorem payload_bar (c : Dv) (d) : (gRd X).payload (barCell c) 0 d = barPay c d := rfl

/-- A signal: its unit is paid and what it lends handed over. -/
theorem sig_core {c' n : Dv} (d : Fin 3) (hu : barUsed c' d) (hn : n = c') {O₀ O : CellTallies nD τ sig Unit}
    (hO : O₀ = O + tallyAt (barCell c') () 1) {s : Sem sig} (hs : s = barS) {S : sProp 𝕄}
    (hk : iprop(recs X K ∗ (∃ W, owes (c : Thread nD τ) O W) ∗ S) ⊢ run c Kp Q) :
    iprop(recs X K ∗ (∃ W, owes (c : Thread nD τ) O₀ W) ∗ dutyTok ER (barCell c') 0 d ∗ barPay c' d ∗ S)
      ⊢ run c (semSignalWord n s 1#32 >>= fun _ => Kp) Q := by
  subst hn; subst hs
  show _ ⊢ run c (.op (.semSignal (n : Thread nD τ) barS ((1 : ℕ) : ℤ)) fun _ => Kp) Q
  iintro ⟨#HR, ⟨%W, HO⟩, Ht, Hp, HS⟩
  ihave H1 := (recs_cell X K (n, none)) $$ HR
  icases H1 with ⟨#HI, #Hr⟩
  iapply (Rounds.wp_signal 𝒱₀ ER (gRd X) (c : Thread nD τ) none (dst := (n : Thread nD τ)) (κ := K (n, none)) (r := 0) (d := d)
    (by rw [duties_bar]; exact Finset.mem_filter.mpr ⟨Finset.mem_univ _, hu⟩) (amount_bar (X := X) n d) () (O₀ := O₀) O hO (W := W)) $$ [HO Ht Hp]
  · isplitr; · iexact HI
    isplitl [HO]; · iexact HO
    isplitl [Ht]; · iexact Ht
    isplitl [Hp]; · iapply (Entails.of_eq (payload_bar (X := X) n d).symm); iexact Hp
    iexact Hr
  iintro HO
  iapply hk
  isplitr; · iexact HR
  isplitl [HO]; · iexists _; iexact HO
  iexact HS

/-- The signal to the next device in direction `d`, made where there is one. It lends the chunks that come from there. -/
theorem step_sig (d e : Fin 3) (hd : d ≠ 2) (hde : ∀ c, nxt d.val (nxt e.val c) = c) {O₀ O : CellTallies nD τ sig Unit}
    (hO : O₀ = O + tB c e.val) {S : sProp 𝕄} {cond : Dv → BitVec 1} {dv : Dv → ℕ} {dvlt : ∀ c, cond c = 1#1 → dv c < nD} {s : Sem sig}
    (hk : iprop(recs X K ∗ (∃ W, owes (c : Thread nD τ) O W) ∗ S) ⊢ run c Kp Q)
    (hs : s = barS)
    (hc : ∀ c, cond c = 1#1 ↔ pos e.val c ≤ 2 := by decide +kernel)
    (hu : ∀ c, pos e.val c ≤ 2 → barUsed (nxt e.val c) d := by decide +kernel)
    (hdv : ∀ c, pos e.val c ≤ 2 → dv c = (nxt e.val c).val := by decide +kernel) :
    iprop(recs X K ∗ (∃ W, owes (c : Thread nD τ) O₀ W) ∗ dutyTok ER (barCell (nxt e.val c)) 0 d ∗ dirOwn c d.val ∗ S)
      ⊢ run c (dite (cond c = 1#1)
        (fun h => semSignalWord (⟨dv c, dvlt c h⟩ : Dev nD) s 1#32 >>= fun _ => Kp) (fun _ => Kp)) Q := by
  by_cases h : cond c = 1#1
  · have hp := (hc c).mp h
    rw [dif_pos h, ← barPay_dir d hd (hde c)]
    exact sig_core d (hu c hp) (Fin.ext (hdv c hp)) (by rw [hO, tB, if_pos hp]) hs hk
  · rw [dif_neg h]
    have e1 : O₀ = O := by rw [hO, tB, if_neg (fun hp => h ((hc c).mpr hp)), add_zero]
    subst e1
    iintro ⟨#HR, HO, -, -, HS⟩
    iapply hk
    isplitr; · iexact HR
    isplitl [HO]; · iexact HO
    iexact HS

/-- The resources at the start, but for what the barrier brings, `R` beside them. -/
def Rest (X : Dv → XC F) (c : Dv) (R : sProp 𝕄) : sProp 𝕄 :=
  iprop((bigSep Finset.univ fun i => iprop(atPos ER (kc c 0 i) 0 ∅ 0 ∗ dutyTok ER (kc c 0 i) 0 0 ∗ dutyTok ER (kc (nxt (dir i) c) 1 i) 0 0))
    ∗ bigSep Finset.univ (srcF X c 0 0 0)
    ∗ (bigSep Finset.univ fun i => iprop(atPos ER (kc c 1 i) 0 ∅ 0 ∗ creditP c 1 i ∗ dutyTok ER (kc c 2 i) 0 0 ∗ dutyTok ER (kc (par c) 3 i) 0 0))
    ∗ bigSep Finset.univ (fwdF X c 0 0) ∗ bigSep Finset.univ (getF X c 0) ∗ R)

/-- Before the barrier wait: every signal sent. -/
def Wt (X : Dv → XC F) (K : Dv × CI → ℕ) (c : Dv) (R : sProp 𝕄) : sProp 𝕄 :=
  iprop(recs X K ∗ (∃ W, owes (c : Thread nD τ) (oS c 0 + oF c 0) W) ∗ cred (tallyAt (barCell c) () (Finset.univ.filter (barUsed c)).card)
    ∗ atPos ER (barCell c) 0 ∅ 0 ∗ Rest X c R)

/-- At the start: the signals' duties and what they lend as well. -/
def Beg (X : Dv → XC F) (K : Dv × CI → ℕ) (c : Dv) (R : sProp 𝕄) : sProp 𝕄 :=
  iprop(recs X K ∗ (∃ W, owes (c : Thread nD τ) (o₀ c) W) ∗ dutyTok ER (barCell (nxt 1 c)) 0 0 ∗ dirOwn c 0
    ∗ dutyTok ER (barCell (nxt 0 c)) 0 1 ∗ dirOwn c 1 ∗ dutyTok ER (barCell (par c)) 0 2 ∗ bigSep Finset.univ (parOwn (F := F) c)
    ∗ cred (tallyAt (barCell c) () (Finset.univ.filter (barUsed c)).card) ∗ atPos ER (barCell c) 0 ∅ 0 ∗ Rest X c R)

/-- What the barrier brings: every chunk this device will write. -/
theorem bar_pay (c : Dv) : bigSep (Finset.univ.filter (barUsed c)) (barPay (F := F) c)
    ⊢ iprop(bigSep Finset.univ (lineDst (F := F) c) ∗ bigSep Finset.univ (parDst (F := F) c)) := by
  have h0 : ∀ d : Fin 3, ¬ barUsed c d → barPay (F := F) c d = iprop(emp) := by
    intro d hu
    unfold barPay
    rw [if_neg (fun h => hu (.inl h))]
    refine (bigSep_congr (Ψ := fun _ => iprop(emp)) fun i _ => ?_).trans (bigSep_emp_const Finset.univ)
    by_cases hi : dir i = d.val
    · rw [if_pos hi, lineDst, if_neg]
      intro hr
      exact hu (.inr (by rw [← hi]; exact hr.1))
    · rw [if_neg hi]
  have h1 : bigSep (Finset.univ.filter (barUsed c)) (barPay (F := F) c) = bigSep Finset.univ (barPay (F := F) c) := by
    rw [bigSep_filter]
    refine bigSep_congr fun d _ => ?_
    by_cases hu : barUsed c d
    · rw [if_pos hu]
    · rw [if_neg hu, h0 d hu]; rfl
  have h2 : ∀ i, (if dir i = (0 : Fin 3).val then lineDst (F := F) c i else iprop(emp)) ∗ (if dir i = (1 : Fin 3).val then lineDst c i else iprop(emp))
      ⊢ lineDst c i := by
    intro i
    rcases (show dir i = (0 : Fin 3).val ∨ dir i = (1 : Fin 3).val by show i.val % 2 = 0 ∨ i.val % 2 = 1; omega) with h | h
    · rw [if_pos h, if_neg (by rw [h]; decide)]; iintro ⟨H, -⟩; iexact H
    · rw [if_neg (by rw [h]; decide), if_pos h]; iintro ⟨-, H⟩; iexact H
  have h3 : iprop(barPay (F := F) c 0 ∗ barPay c 1) ⊢ bigSep Finset.univ (lineDst c) := by
    unfold barPay
    rw [if_neg (by decide), if_neg (by decide)]
    exact zip_mono h2
  have h4 : barPay (F := F) c 2 = bigSep Finset.univ (parDst c) := if_pos rfl
  rw [h1, show (Finset.univ : Finset (Fin 3)) = {0, 1, 2} by decide, bigSep_insert (by decide), bigSep_insert (by decide), bigSep_singleton, h4]
  show iprop(barPay c 0 ∗ barPay c 1 ∗ bigSep Finset.univ (parDst c)) ⊢ _
  iintro ⟨H0, H1, H2⟩
  isplitr [H2]
  · iapply h3
    isplitl [H0]; · iexact H0
    iexact H1
  iexact H2

/-- The barrier wait: the chunks to write arrive, the barrier's cell closes, and the state of the body proper is reached. -/
theorem step_bar {s : Sem sig} {n : BitVec 32} {R : sProp 𝕄} (hk : St X K c 0 0 0 0 0 iprop(semVal (barCell c) 0 ∗ R) ⊢ run c Kp Q)
    (hs : s = barS) (hn : n.toInt = ((Finset.univ.filter (barUsed c)).card : ℤ)) :
    Wt X K c R ⊢ run c (semWaitWord s n >>= fun _ => Kp) Q := by
  subst hs
  show _ ⊢ run c (.op (.semWait barS n.toInt) fun _ => Kp) Q
  rw [hn]
  unfold Wt Rest
  iintro ⟨#HR, ⟨%W, HO⟩, Hc, Hat, Hs, Hsrc, Hrv, Hf, Hg, HRR⟩
  ihave H1 := (recs_cell X K (c, none)) $$ HR
  icases H1 with ⟨#HI, -⟩
  iapply (Rounds.wp_wait_rest_token 𝒱₀ ER (gRd X) (c : Thread nD τ) none (κ := K (c, none))
      (wpE_semWait_eq 𝒱₀ (c : Thread nD τ) none Set.univ) (Set.mem_univ _) () (O := oS c 0 + oF c 0) (W := W) (R := 0) (m := 0) (T := ∅)
      (by rw [Nat.zero_add]; exact (expect_bar X c).symm)) $$ [Hc HO Hat]
  · isplitr; · iexact HI
    isplitl [Hc]; · iexact Hc
    isplitl [HO]; · iexact HO
    isplitr; · iapply (recs_mayWait_bar X K c); iexact HR
    iexact Hat
  iintro ⟨HO, Hat, -, Hpay⟩
  ihave Hp := (show bigSep ((gRd X).duties (barCell c) 0 \ ∅) (fun d => (gRd X).payload (barCell c) 0 d)
      ⊢ iprop(bigSep Finset.univ (lineDst (F := F) c) ∗ bigSep Finset.univ (parDst (F := F) c)) from by
    rw [Finset.sdiff_empty, duties_bar]; exact bar_pay c) $$ Hpay
  icases Hp with ⟨Hl, Hp⟩
  imod (Rounds.cell_close ER (gRd X) (Set.mem_univ (K (c, none))) (fun h => h) (R := 0 + 1) (duties_later X (barCell c))) $$ [Hat] with Hz
  · isplitr; · iexact HI
    iexact Hat
  iapply hk
  unfold St
  isplitr; · iexact HR
  isplitl [HO]; · iexists _; iexact HO
  isplitl [Hs Hl]
  · iapply (show iprop((bigSep Finset.univ fun i => iprop(atPos ER (kc c 0 i) 0 ∅ 0 ∗ dutyTok ER (kc c 0 i) 0 0 ∗ dutyTok ER (kc (nxt (dir i) c) 1 i) 0 0))
        ∗ bigSep Finset.univ (lineDst (F := F) c)) ⊢ bigSep Finset.univ (sendF X c 0 0) from
      zip_mono fun i => by
        unfold sendF readyP
        rw [if_neg (by omega), if_neg (by omega)]
        iintro ⟨⟨H1, H2, H3⟩, H4⟩
        isplitl [H1]; · iexact H1
        isplitl [H2]; · iexact H2
        isplitl [H3]; · iexact H3
        iexact H4)
    isplitl [Hs]; · iexact Hs
    iexact Hl
  isplitl [Hsrc]; · iexact Hsrc
  isplitl [Hrv Hp]
  · iapply (show iprop((bigSep Finset.univ fun i => iprop(atPos ER (kc c 1 i) 0 ∅ 0 ∗ creditP c 1 i ∗ dutyTok ER (kc c 2 i) 0 0 ∗ dutyTok ER (kc (par c) 3 i) 0 0))
        ∗ bigSep Finset.univ (parDst (F := F) c)) ⊢ bigSep Finset.univ (recvF (F := F) c 0) from
      zip_mono fun i => by
        unfold recvF
        rw [if_neg (by omega)]
        iintro ⟨⟨H1, H2, H3, H5⟩, H4⟩
        isplitl [H1]; · iexact H1
        isplitl [H2]; · iexact H2
        isplitl [H4]; · iexact H4
        isplitl [H3]; · iexact H3
        iexact H5)
    isplitl [Hrv]; · iexact Hrv
    iexact Hp
  isplitl [Hf]; · iexact Hf
  isplitl [Hg]; · iexact Hg
  isplitl [Hz]; · iexact Hz
  iexact HRR

end Start

end Cert.Gather
-- ==== Proof.Own.lean ====
/-
# The own block

The device loads its block of `x` and stores it into its rows of the result.
-/
module

public import proofs.«01_k».proof.Proof.Start
public import Idealize.ShloMosaic.Lib.Pipeline.Value

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The device's own rows of the result. -/
def ownRows (c : Dv) : Finset S4096x512.Idx := Finset.univ.filter fun i => (i 0).val / 1024 = yOf c

/-- The block of the result at a row, as the kernel reads and writes it. -/
abbrev oRect (off : Fin 2 → ℕ) (inb : ∀ a, off a + S1024x512.size a ≤ S4096x512.size a) : Rect S4096x512 :=
  Rect.unit (s := S4096x512) off S1024x512.size inb

theorem set_oRect {off : Fin 2 → ℕ} {inb} {c : Dv} (h : off = ![1024 * yOf c, 0]) : (oM.access (oRect off inb)).set = ownRows c := by
  subst h
  refine (View.set_slice_whole cc0_stg1_0 _).trans (Finset.ext fun i => ?_)
  rw [Rect.mem_set_unit, ownRows, Finset.mem_filter]
  show (∀ a : Fin 2, ![1024 * yOf c, 0] a ≤ (i a).val ∧ (i a).val < ![1024 * yOf c, 0] a + S1024x512.size a) ↔ _
  rw [Fin.forall_fin_two]
  have h1 : (i 1).val < 512 := (i 1).isLt
  simp only [Matrix.cons_val_zero, Matrix.cons_val_one, Finset.mem_univ, true_and]
  constructor
  · rintro ⟨⟨h, h'⟩, -⟩
    have h' : (i 0).val < 1024 * yOf c + 1024 := h'
    omega
  · intro h
    refine ⟨⟨by omega, ?_⟩, Nat.zero_le _, ?_⟩
    · show (i 0).val < 1024 * yOf c + 1024; omega
    · show (i 1).val < 0 + 512; omega

/-- Storing the block there leaves the gathered result's rows. -/
theorem own_gath (X : Dv → XC F) {off : Fin 2 → ℕ} {inb} {c : Dv} (h : off = ![1024 * yOf c, 0]) (f : OC F) :
    ∀ i ∈ ownRows c, (oM.access (oRect off inb)).write (Elt F) f (k0_pay1 (X c)) Finset.univ i = gath X c i := by
  intro i hi
  have hi' := (Finset.mem_filter.mp hi).2
  have hp : k0_pay1 (F := F) (X c) = X c := shapeCast_self _ _
  rw [hp, gath, srcDev, if_pos hi']
  subst h
  rw [← set_oRect (inb := inb) rfl] at hi
  obtain ⟨x, -, rfl⟩ := Finset.mem_map.mp hi
  refine (View.write_emb_of_mem (v := (oM.access (oRect ![1024 * yOf c, 0] inb))) _ _ (Finset.mem_univ x)).trans ?_
  show X c _ = X c _
  congr 1
  funext a
  have h0 : (x 0).val < 1024 := (x 0).isLt
  fin_cases a
  · apply Fin.ext
    show (x 0).val = (1024 * yOf c + 1 * (x 0).val) % 1024
    omega
  · apply Fin.ext
    show (x 1).val = 0 + 1 * (x 1).val
    omega

section Own
variable {X : Dv → XC F} {K : Dv × CI → ℕ} {c : Dv} {α : Type} {Q : α → sProp (MT nD τ sig Unit (Elt F) ℕ UU ℕ)} {Kp : PG F α}

/-- The device's share of its block of `x` for the load, and its rows of the result before and after the store. -/
def ownX (X : Dv → XC F) (c : Dv) : sProp 𝕄 := xLoc c ↦[Finset.univ]{qLoad} X c
def ownO (c : Dv) : sProp 𝕄 := iprop(∃ f : OC F, oLoc c ↦[ownRows c]{fullShare} f)
def ownG (X : Dv → XC F) (c : Dv) : sProp 𝕄 := oLoc c ↦[ownRows c]{fullShare} gath X c

theorem step_own {a b : ℕ} {R : sProp 𝕄} {off : Dv → Fin 2 → ℕ} {inb : ∀ c a, off c a + S1024x512.size a ≤ S4096x512.size a}
    {inb₀ : ∀ a, (![0, 0] : Fin 2 → ℕ) a + S1024x512.size a ≤ S1024x512.size a}
    {hl : xM.view.LoadsAt (Rect.unit (s := S1024x512) ![0, 0] S1024x512.size inb₀).toLoadRect}
    {hl' : oM.view.LoadsAt (oRect (off c) (inb c)).toLoadRect} {hx : (oM.access (oRect (off c) (inb c))).Stores Finset.univ} {hm}
    (hk : St X K c a b 0 0 0 iprop(R ∗ ownX X c ∗ ownG X c) ⊢ run c Kp Q)
    (hoff : ∀ c, off c = ![1024 * yOf c, 0]) :
    St X K c a b 0 0 0 iprop(R ∗ ownX X c ∗ ownO c) ⊢ run c
      (Prog.lift (.load xM (Rect.unit (s := S1024x512) ![0, 0] S1024x512.size inb₀).toLoadRect hl) >>= fun v =>
        Prog.lift (.load oM (oRect (off c) (inb c)).toLoadRect hl') >>= fun _ =>
        Prog.lift (.store oM (oRect (off c) (inb c)) (k0_pay1 v) Finset.univ hx hm) >>= fun _ => Kp) Q := by
  simp only [Prog.lift, Prog.bind_op, Prog.bind_ret]
  have hg : ∀ f : OC F, (oLoc c ↦[ownRows c]{fullShare} (oM.access (oRect (off c) (inb c))).write (Elt F) f (k0_pay1 (X c)) Finset.univ : sProp 𝕄)
      = (oLoc c ↦[ownRows c]{fullShare} gath X c) := fun f => pointsTo_congr (own_gath X (hoff c) f)
  unfold St ownX ownO
  iintro ⟨#HR, HO, Hs, Hsrc, Hrv, Hf, Hg, HRR, Hx, ⟨%f, Ho⟩⟩
  have hS : (oM.access (oRect (off c) (inb c))).set ⊆ ownRows c := (set_oRect (hoff c)).subset
  have hS' : (oM.access (oRect (off c) (inb c))).setOn Finset.univ ⊆ ownRows c := by rw [View.setOn_univ]; exact hS
  iapply (wp_load 𝒱₀ (c : Thread nD τ) none Set.univ (m := xM) (Finset.subset_univ _)) $$ Hx; iintro Hx
  have hz : (![0, 0] : Fin 2 → ℕ) = fun _ => 0 := by funext a; fin_cases a <;> rfl
  have hread : xM.view.readAt (Elt F) (Rect.unit (s := S1024x512) ![0, 0] S1024x512.size inb₀).toLoadRect (X c) = X c :=
    Memref.readAt_unit_zero (Elt F) cc0_stg0_0 hz _ (X c)
  rw [hread]
  iapply (wp_load_rect 𝒱₀ (c : Thread nD τ) none Set.univ (m := oM) (r := oRect (off c) (inb c)) hS) $$ Ho; iintro Ho
  iapply (wp_store 𝒱₀ (c : Thread nD τ) none Set.univ (m := oM) (r := oRect (off c) (inb c)) (Mk := Finset.univ) hS') $$ Ho; iintro Ho
  iapply hk
  unfold St ownX ownG
  isplitr; · iexact HR
  isplitl [HO]; · iexact HO
  isplitl [Hs]; · iexact Hs
  isplitl [Hsrc]; · iexact Hsrc
  isplitl [Hrv]; · iexact Hrv
  isplitl [Hf]; · iexact Hf
  isplitl [Hg]; · iexact Hg
  isplitl [HRR]; · iexact HRR
  isplitl [Hx]; · iexact Hx
  iapply (Entails.of_eq (hg f)); iexact Ho

end Own

end Cert.Gather
-- ==== Proof.Split.lean ====
/-
# The staged buffers, cut into the pieces the body works with

The result is its own rows, the chunks from the line and the chunks from the partner; the block of `x` is a share to load, the
chunks that go out, and a rest. Here: the buffers cut up at the start and put together at the end.
-/
module

public import proofs.«01_k».proof.Proof.Own

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem eq_of {P Q : sProp 𝕄} (h : P ⊣⊢ Q) : P = Q := BI.equiv_iff.mp ⟨h.1, h.2⟩

theorem each_mono {I : Type} [Fintype I] {Φ Ψ : I → sProp 𝕄} (h : ∀ i, Φ i ⊢ Ψ i) :
    bigSep Finset.univ Φ ⊢ bigSep Finset.univ Ψ := bigSep_mono fun i _ => h i

/-! ## Which rows arrive from where -/

/-- The rows of the result that arrive along the line, and those the partner forwards. -/
def lineRows (c : Dv) : Finset S4096x512.Idx := Finset.univ.filter fun i => (i 0).val / 1024 ≠ yOf c ∧ (i 0).val % 1024 / 512 = xOf c
def parRows (c : Dv) : Finset S4096x512.Idx := Finset.univ.filter fun i => (i 0).val / 1024 ≠ yOf c ∧ (i 0).val % 1024 / 512 = 1 - xOf c

/-- The links a device receives on. -/
def rrs (c : Dv) : Finset (Fin 24) := Finset.univ.filter (rr c)

/-- The chunks of one half `x` of every block but the own one, link by link. -/
theorem rows_eq (c : Dv) {x : ℕ} (hx : x < 2) :
    (rrs c).biUnion (fun i => oChunk (org c i * 8 + x * 4 + sub i))
      = Finset.univ.filter fun i : S4096x512.Idx => (i 0).val / 1024 ≠ yOf c ∧ (i 0).val % 1024 / 512 = x := by
  ext r
  have hr : (r 0).val < 4096 := (r 0).isLt
  simp only [Finset.mem_biUnion, rrs, oChunk, Finset.mem_filter, Finset.mem_univ, true_and]
  constructor
  · rintro ⟨i, hi, e⟩
    have h1 := org_lt hi
    have h2 := sub_lt i
    have e' : (r 0).val / 1024 = org c i := by omega
    refine ⟨by rw [e']; exact h1.2, by omega⟩
  · rintro ⟨hne, hx'⟩
    obtain ⟨i, hi, ho, hj⟩ := org_surj c (o := (r 0).val / 1024) (j := (r 0).val / 128 % 4) (by omega) hne (by omega)
    refine ⟨i, hi, ?_⟩
    rw [ho, hj]; omega

/-- Chunks of different links are apart. -/
theorem rows_apart (c : Dv) {x : ℕ} (hx : x < 2) :
    ∀ i ∈ rrs c, ∀ i' ∈ rrs c, i ≠ i' → Disjoint (oChunk (org c i * 8 + x * 4 + sub i)) (oChunk (org c i' * 8 + x * 4 + sub i')) := by
  intro i hi i' hi' hne
  have hi := (Finset.mem_filter.mp hi).2
  have hi' := (Finset.mem_filter.mp hi').2
  refine Finset.disjoint_left.mpr fun r hr hr' => hne ?_
  have e := (Finset.mem_filter.mp hr).2
  have e' := (Finset.mem_filter.mp hr').2
  have h2 := sub_lt i
  have h2' := sub_lt i'
  exact org_inj hi hi' (by omega) (by omega)

/-- One half of the other blocks, as a resource: the chunks of it, link by link. -/
theorem rows_split (c : Dv) {x : ℕ} (hx : x < 2) (f : OC F) :
    (oLoc c ↦[Finset.univ.filter fun i : S4096x512.Idx => (i 0).val / 1024 ≠ yOf c ∧ (i 0).val % 1024 / 512 = x]{fullShare} f : sProp 𝕄)
      = bigSep Finset.univ fun i => if rr c i then oPts c (org c i * 8 + x * 4 + sub i) fullShare f else iprop(emp) := by
  rw [← rows_eq c hx]
  refine (pointsTo_biUnion (rrs c) _ (rows_apart c hx)).trans ?_
  exact bigSep_filter Finset.univ (rr c) _

/-- The whole result: the own rows, those from the line, those from the partner. -/
theorem out_split (c : Dv) (f : OC F) :
    (oLoc c ↦[Finset.univ]{fullShare} f : sProp 𝕄)
      = iprop((oLoc c ↦[ownRows c]{fullShare} f)
        ∗ (bigSep Finset.univ fun i => if rr c i then oPts c (rk c i) fullShare f else iprop(emp))
        ∗ bigSep Finset.univ fun i => if rr c i then oPts c (pk c i) fullShare f else iprop(emp)) := by
  have hx := xOf_lt c
  have e1 : (oLoc c ↦[lineRows c]{fullShare} f : sProp 𝕄) = _ := rows_split c hx f
  have e2 : (oLoc c ↦[parRows c]{fullShare} f : sProp 𝕄) = _ := rows_split c (x := 1 - xOf c) (by omega) f
  have hu : (Finset.univ : Finset S4096x512.Idx) = ownRows c ∪ (lineRows c ∪ parRows c) := by
    ext r
    have hr : (r 0).val < 4096 := (r 0).isLt
    simp only [ownRows, lineRows, parRows, Finset.mem_union, Finset.mem_filter, Finset.mem_univ, true_and, true_iff]
    omega
  have hd : Disjoint (ownRows c) (lineRows c ∪ parRows c) := by
    refine Finset.disjoint_left.mpr fun r hr hr' => ?_
    simp only [ownRows, lineRows, parRows, Finset.mem_union, Finset.mem_filter, Finset.mem_univ, true_and] at hr hr'
    omega
  have hd' : Disjoint (lineRows c) (parRows c) := by
    refine Finset.disjoint_left.mpr fun r hr hr' => ?_
    simp only [lineRows, parRows, Finset.mem_filter, Finset.mem_univ, true_and] at hr hr'
    omega
  have h0 : (oLoc c ↦[Finset.univ]{fullShare} f : sProp 𝕄) = (oLoc c ↦[ownRows c ∪ (lineRows c ∪ parRows c)]{fullShare} f) := by
    rw [← hu]
  have h1 : (oLoc c ↦[ownRows c ∪ (lineRows c ∪ parRows c)]{fullShare} f : sProp 𝕄)
      = iprop((oLoc c ↦[ownRows c]{fullShare} f) ∗ (oLoc c ↦[lineRows c ∪ parRows c]{fullShare} f)) := eq_of (pointsTo_union (ℓ := oLoc c) (I := ownRows c) (J := lineRows c ∪ parRows c) hd)
  have h2 : (oLoc c ↦[lineRows c ∪ parRows c]{fullShare} f : sProp 𝕄)
      = iprop((oLoc c ↦[lineRows c]{fullShare} f) ∗ (oLoc c ↦[parRows c]{fullShare} f)) := eq_of (pointsTo_union (ℓ := oLoc c) (I := lineRows c) (J := parRows c) hd')
  rw [h0, h1, h2, e1, e2]

/-- At the start: the result at any contents, cut up. -/
theorem out_start (c : Dv) (f : OC F) :
    (oLoc c ↦[Finset.univ]{fullShare} f : sProp 𝕄)
      ⊢ iprop(ownO c ∗ bigSep Finset.univ (lineOwn (F := F) c) ∗ bigSep Finset.univ (parOwn (F := F) c)) := by
  rw [out_split]
  have h1 : (bigSep Finset.univ fun i => if rr c i then oPts c (rk c i) fullShare f else iprop(emp) : sProp 𝕄)
      ⊢ bigSep Finset.univ (lineOwn (F := F) c) := each_mono fun i => by
    unfold lineOwn; split
    · iintro H; iexists f; iexact H
    · exact BIBase.Entails.rfl
  have h2 : (bigSep Finset.univ fun i => if rr c i then oPts c (pk c i) fullShare f else iprop(emp) : sProp 𝕄)
      ⊢ bigSep Finset.univ (parOwn (F := F) c) := each_mono fun i => by
    unfold parOwn; split
    · iintro H; iexists f; iexact H
    · exact BIBase.Entails.rfl
  unfold ownO
  iintro ⟨H1, H2, H3⟩
  isplitl [H1]; · iexists f; iexact H1
  isplitl [H2]; · iapply h1; iexact H2
  iapply h2; iexact H3

/-- The chunks from the line come in one direction or the other. -/
theorem dir_split (c : Dv) : bigSep Finset.univ (lineOwn (F := F) c) ⊢ iprop(dirOwn c 0 ∗ dirOwn c 1) := by
  unfold dirOwn
  refine (each_mono fun i => ?_).trans (Entails.of_eq (bigSep_sep' Finset.univ _ _))
  show _ ⊢ iprop((if dir i = 0 then lineOwn (F := F) c i else iprop(emp)) ∗ if dir i = 1 then lineOwn (F := F) c i else iprop(emp))
  rcases Nat.mod_two_eq_zero_or_one i.val with h | h
  · rw [if_pos h, if_neg (by rw [dir, h]; decide)]
    iintro H; isplitl [H]; · iexact H
    iempintro
  · rw [if_neg (by rw [dir, h]; decide), if_pos h]
    iintro H; isplitr; · iempintro
    iexact H

/-- At the end: the pieces of the gathered result, put together. -/
theorem out_end (X : Dv → XC F) (c : Dv) :
    iprop(ownG X c ∗ bigSep Finset.univ (held X c) ∗ bigSep Finset.univ (lent X c) ∗ bigSep Finset.univ (gift X c))
      ⊢ (oLoc c ↦[Finset.univ]{fullShare} gath X c : sProp 𝕄) := by
  rw [out_split]
  have h1 : iprop(bigSep Finset.univ (held X c) ∗ bigSep Finset.univ (lent X c))
      ⊢ (bigSep Finset.univ fun i => if rr c i then oPts c (rk c i) fullShare (gath X c) else iprop(emp) : sProp 𝕄) :=
    zip_mono fun i => by
      unfold held lent
      by_cases h : rr c i
      · rw [if_pos h, if_pos h, if_pos h]; exact (oPts_halves c (rk c i) (gath X c)).2
      · rw [if_neg h, if_neg h, if_neg h]; iintro ⟨H, -⟩; iexact H
  unfold ownG
  iintro ⟨H1, H2, H3, H4⟩
  isplitl [H1]; · iexact H1
  isplitl [H2 H3]
  · iapply h1; isplitl [H2] <;> iassumption
  · iexact H4

/-! ## The sources -/

/-- The chunks of `x` that go out in the first step, link by link. -/
def xParts (X : Dv → XC F) (c : Dv) : sProp 𝕄 :=
  bigSep Finset.univ fun i : Fin 8 => xPts X c (xOf c * 4 + i.val / 2 % 4) (qDir (i.val % 2))

/-- The sources are those chunks and the received ones. -/
theorem src_split (Φ : Fin 32 → sProp 𝕄) :
    bigSep Finset.univ Φ = iprop((bigSep Finset.univ fun i : Fin 8 => Φ ⟨i.val, by omega⟩) ∗ bigSep Finset.univ fun i : Fin 24 => Φ (hi i)) := by
  rw [bigSep_univ_equiv (finSumFinEquiv : Fin 8 ⊕ Fin 24 ≃ Fin 32) Φ]
  refine (bigSep_univ_sum _).trans ?_
  have e : ∀ i : Fin 24, finSumFinEquiv (m := 8) (Sum.inr i) = hi i := fun i => Fin.ext (Nat.add_comm 8 i.val)
  refine congrArg₂ _ rfl (bigSep_congr fun i _ => ?_)
  rw [e]

theorem srcP_lo (X : Dv → XC F) (c : Dv) (i : Fin 8) :
    srcP X c ⟨i.val, by omega⟩ = xPts X c (xOf c * 4 + i.val / 2 % 4) (qDir (i.val % 2)) := by
  unfold srcP; rw [dif_pos i.isLt]

theorem src_start (X : Dv → XC F) (c : Dv) : xParts X c ⊢ bigSep Finset.univ (srcF X c 0 0 0) := by
  rw [src_split]
  have h1 : xParts X c ⊢ (bigSep Finset.univ fun i : Fin 8 => srcF X c 0 0 0 ⟨i.val, by omega⟩ : sProp 𝕄) := each_mono fun i => by
    unfold srcF; rw [if_pos (.inr ⟨Nat.zero_le _, .inl i.isLt⟩), srcP_lo]
  have h2 : (iprop(emp) : sProp 𝕄) = bigSep Finset.univ fun i : Fin 24 => srcF X c 0 0 0 (hi i) := by
    refine Eq.trans (BI.bigSep_emp_const (Finset.univ : Finset (Fin 24))).symm (bigSep_congr fun i _ => ?_)
    unfold srcF; rw [if_neg (by have e : (hi i).val = i.val + 8 := rfl; omega)]; rfl
  rw [← h2]
  iintro H
  isplitl [H]; · iapply h1; iexact H
  iempintro

theorem src_end (X : Dv → XC F) (c : Dv) :
    bigSep Finset.univ (srcF X c 24 24 24) ⊢ iprop(xParts X c ∗ bigSep Finset.univ (held X c)) := by
  rw [src_split]
  have h1 : (bigSep Finset.univ fun i : Fin 8 => srcF X c 24 24 24 ⟨i.val, by omega⟩) ⊢ xParts X c := each_mono fun i => by
    unfold srcF; rw [if_pos (.inl (show i.val < 24 by omega)), srcP_lo]
  have h2 : (bigSep Finset.univ fun i : Fin 24 => srcF X c 24 24 24 (hi i)) ⊢ bigSep Finset.univ (held X c) := each_mono fun i => by
    unfold srcF
    rw [if_pos (by have e : (hi i).val = i.val + 8 := rfl; omega), srcP_hi]
  iintro ⟨H1, H2⟩
  isplitl [H1]; · iapply h1; iexact H1
  iapply h2; iexact H2

/-! ## The staged block of `x` -/

/-- The half of `x` a device sends. -/
def xHalf (c : Dv) : Finset S1024x512.Idx := Finset.univ.biUnion fun j : Fin 4 => xChunk (xOf c * 4 + j.val)

theorem xHalf_split (X : Dv → XC F) (c : Dv) (q : PosShare TreeShare) :
    (xLoc c ↦[Finset.univ]{q} X c : sProp 𝕄)
      = iprop((bigSep Finset.univ fun j : Fin 4 => xPts X c (xOf c * 4 + j.val) q) ∗ xLoc c ↦[Finset.univ \ xHalf c]{q} X c) := by
  have h1 : (xLoc c ↦[Finset.univ]{q} X c : sProp 𝕄)
      = iprop((xLoc c ↦[xHalf c]{q} X c) ∗ xLoc c ↦[Finset.univ \ xHalf c]{q} X c) :=
    eq_of (pointsTo_split_subset (ℓ := xLoc c) (I := xHalf c) (S := Finset.univ) (Finset.subset_univ _))
  have h2 : (xLoc c ↦[xHalf c]{q} X c : sProp 𝕄) = bigSep Finset.univ fun j : Fin 4 => xPts X c (xOf c * 4 + j.val) q :=
    pointsTo_biUnion Finset.univ _ fun j _ j' _ hne => by
      refine Finset.disjoint_left.mpr fun r hr hr' => hne (Fin.ext ?_)
      have e := (Finset.mem_filter.mp hr).2
      have e' := (Finset.mem_filter.mp hr').2
      omega
  rw [h1, h2]

/-- What of `x`'s shares is neither loaded nor sent. -/
def xOther (X : Dv → XC F) (c : Dv) : sProp 𝕄 :=
  iprop((xLoc c ↦[Finset.univ \ xHalf c]{qDir 0} X c) ∗ xLoc c ↦[Finset.univ \ xHalf c]{qDir 1} X c)

theorem xParts_eq (X : Dv → XC F) (c : Dv) :
    xParts X c = iprop((bigSep Finset.univ fun j : Fin 4 => xPts X c (xOf c * 4 + j.val) (qDir 0))
      ∗ bigSep Finset.univ fun j : Fin 4 => xPts X c (xOf c * 4 + j.val) (qDir 1)) := by
  unfold xParts
  rw [bigSep_univ_equiv (finProdFinEquiv : Fin 4 × Fin 2 ≃ Fin 8), bigSep_univ_prod, ← bigSep_sep']
  refine bigSep_congr fun j _ => ?_
  rw [bigSep_fin_two]
  have e0 : (finProdFinEquiv (j, (0 : Fin 2)) : Fin 8).val = 0 + 2 * j.val := rfl
  have e1 : (finProdFinEquiv (j, (1 : Fin 2)) : Fin 8).val = 1 + 2 * j.val := rfl
  have h0 : (0 + 2 * j.val) / 2 % 4 = j.val := by omega
  have h1 : (1 + 2 * j.val) / 2 % 4 = j.val := by omega
  have g0 : (0 + 2 * j.val) % 2 = 0 := by omega
  have g1 : (1 + 2 * j.val) % 2 = 1 := by omega
  rw [e0, e1, h0, h1, g0, g1]
  rfl

/-- The whole of `x`: the share that is loaded, the chunks that go out, and the rest. -/
theorem x_split (X : Dv → XC F) (c : Dv) :
    (xLoc c ↦[Finset.univ]{fullShare} X c : sProp 𝕄) ⊣⊢ iprop(ownX X c ∗ xParts X c ∗ xOther X c) := by
  have h1 : (xLoc c ↦[Finset.univ]{fullShare} X c : sProp 𝕄)
      = iprop((xLoc c ↦[Finset.univ]{qLoad} X c) ∗ xLoc c ↦[Finset.univ]{fullShare.right} X c) :=
    eq_of (pointsTo_share (ℓ := xLoc c) (I := Finset.univ) (PosShare.mem_left_op_right _))
  have h2 : (xLoc c ↦[Finset.univ]{fullShare.right} X c : sProp 𝕄)
      = iprop((xLoc c ↦[Finset.univ]{qDir 0} X c) ∗ xLoc c ↦[Finset.univ]{qDir 1} X c) :=
    eq_of (pointsTo_share (ℓ := xLoc c) (I := Finset.univ) (PosShare.mem_left_op_right _))
  rw [h1, h2, xHalf_split X c (qDir 0), xHalf_split X c (qDir 1), xParts_eq]
  unfold ownX xOther
  constructor
  · iintro ⟨H1, ⟨H2, H3⟩, H4, H5⟩
    isplitl [H1]; · iexact H1
    isplitl [H2 H4]
    · isplitl [H2] <;> iassumption
    · isplitl [H3] <;> iassumption
  · iintro ⟨H1, ⟨H2, H4⟩, H3, H5⟩
    isplitl [H1]; · iexact H1
    isplitl [H2 H3]
    · isplitl [H2] <;> iassumption
    · isplitl [H4] <;> iassumption

end Cert.Gather
-- ==== Proof.Ghost.lean ====
/-
# Dealing the ghost state

At launch every device's cells are opened at once: the tokens of its duties go to the devices that pay them, its positions
stay with it, and the cells' invariants are everyone's.
-/
module

public import proofs.«01_k».proof.Proof.Split

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over a device's cells -/

omit [FloatOps F] in
/-- A family over a device's cells: the barrier's member and the copies' members. -/
theorem bigSep_cells (Φ : CI → sProp 𝕄) : bigSep Finset.univ Φ
    = iprop(Φ none ∗ bigSep Finset.univ fun p : Fin 4 × Fin 24 => Φ (some p)) := by
  have e : (Finset.univ : Finset CI) = insert none (Finset.univ.map Function.Embedding.some) := by
    ext a; cases a <;> simp
  rw [e, bigSep_insert (by simp), bigSep_map]; rfl

omit [FloatOps F] in
/-- A family over kinds and links, kind by kind. -/
theorem bigSep_kinds (Φ : Fin 4 → Fin 24 → sProp 𝕄) : (bigSep Finset.univ fun p : Fin 4 × Fin 24 => Φ p.1 p.2)
    = iprop(bigSep Finset.univ (Φ 0) ∗ bigSep Finset.univ (Φ 1) ∗ bigSep Finset.univ (Φ 2) ∗ bigSep Finset.univ (Φ 3)) := by
  rw [bigSep_univ_prod]
  exact bigSep_univ_eq_bigSepL [0, 1, 2, 3] (by decide) (by decide) _

/-! ## The tokens -/

/-- A device's duties: the barrier's three signals, and one per kind and link. -/
abbrev TI : Type := Fin 3 ⊕ (Fin 4 × Fin 24)
def tokOf (p : Dv × TI) : GSem nD τ sig × ℕ × Fin 3 :=
  match p.2 with
  | .inl d => (barCell p.1, 0, d)
  | .inr a => (kc p.1 a.1 a.2, 0, 0)

theorem tokOf_inj : Function.Injective tokOf := by
  rintro ⟨c, d | ⟨k, i⟩⟩ ⟨c', d' | ⟨k', i'⟩⟩ h
  · have h1 : c = c' := congrArg (fun x : GSem nD τ sig × ℕ × Fin 3 => x.1.1.1) h
    have h2 : d = d' := congrArg (fun x : GSem nD τ sig × ℕ × Fin 3 => x.2.2) h
    rw [h1, h2]
  · have h2 : SemLoc.reg barS = SemLoc.dma (enc k' i') := congrArg (fun x : GSem nD τ sig × ℕ × Fin 3 => x.1.2) h
    cases h2
  · have h2 : SemLoc.dma (enc k i) = SemLoc.reg barS := congrArg (fun x : GSem nD τ sig × ℕ × Fin 3 => x.1.2) h
    cases h2
  · obtain ⟨h1, h2, h3⟩ : c = c' ∧ k = k' ∧ i = i' := kc_inj (congrArg (fun x : GSem nD τ sig × ℕ × Fin 3 => x.1) h)
    rw [h1, h2, h3]

def allCells : Finset (GSem nD τ sig) := Finset.univ.map ⟨cell, cell_inj⟩
def allToks : Finset (GSem nD τ sig × ℕ × Fin 3) := Finset.univ.map ⟨tokOf, tokOf_inj⟩

section Deal
variable (X : Dv → XC F)

/-- The tokens of device `c`'s own cells' duties. -/
def toks (c : Dv) : sProp 𝕄 :=
  iprop((dutyTok ER (barCell c) 0 0 ∗ dutyTok ER (barCell c) 0 1 ∗ dutyTok ER (barCell c) 0 2)
    ∗ (bigSep Finset.univ fun i => dutyTok ER (kc c 0 i) 0 0) ∗ (bigSep Finset.univ fun i => dutyTok ER (kc c 1 i) 0 0)
    ∗ (bigSep Finset.univ fun i => dutyTok ER (kc c 2 i) 0 0) ∗ (bigSep Finset.univ fun i => dutyTok ER (kc c 3 i) 0 0))

/-- The tokens of the duties device `c` pays. -/
def payToks (c : Dv) : sProp 𝕄 :=
  iprop((dutyTok ER (barCell (nxt 1 c)) 0 0 ∗ dutyTok ER (barCell (nxt 0 c)) 0 1 ∗ dutyTok ER (barCell (par c)) 0 2)
    ∗ (bigSep Finset.univ fun i => dutyTok ER (kc c 0 i) 0 0) ∗ (bigSep Finset.univ fun i => dutyTok ER (kc (nxt (dir i) c) 1 i) 0 0)
    ∗ (bigSep Finset.univ fun i => dutyTok ER (kc c 2 i) 0 0) ∗ (bigSep Finset.univ fun i => dutyTok ER (kc (par c) 3 i) 0 0))

/-- What the launch deals device `c`: its cells' states, its positions in them, its cells' tokens. -/
def G (c : Dv) : sProp 𝕄 :=
  iprop((bigSep Finset.univ fun a : CI => roundState ER (gRd X) (cell (c, a)) 0)
    ∗ (bigSep Finset.univ fun a : CI => atPos ER (cell (c, a)) 0 ∅ 0)
    ∗ (bigSep Finset.univ fun a : CI => reached ER (cell (c, a)) 0) ∗ toks (F := F) c)

omit [FloatOps F] in
theorem toks_eq : bigSep allToks (fun x => (dutyTok ER x.1 x.2.1 x.2.2 : sProp 𝕄)) = bigSep Finset.univ fun c : Dv => toks c := by
  unfold allToks
  rw [bigSep_map, bigSep_univ_prod]
  refine bigSep_congr fun c _ => ?_
  rw [bigSep_univ_sum]
  unfold toks
  rw [← bigSep_kinds (fun k i => (dutyTok ER (kc c k i) 0 0 : sProp 𝕄)),
    ← show _ = iprop(dutyTok ER (barCell c) 0 0 ∗ dutyTok ER (barCell c) 0 1 ∗ dutyTok ER (barCell c) 0 2) from
      bigSep_univ_eq_bigSepL [0, 1, 2] (by decide) (by decide) (fun d : Fin 3 => (dutyTok ER (barCell c) 0 d : sProp 𝕄))]
  rfl

/-- The launch element is every device's deal. -/
theorem fund_all : BI.own (ER (initOf allCells allToks)) ⊢ (|==> bigSep Finset.univ (G X) : sProp 𝕄) := by
  have hX (Φ : GSem nD τ sig → sProp 𝕄) :
      bigSep allCells Φ = bigSep Finset.univ fun c : Dv => bigSep Finset.univ fun a : CI => Φ (cell (c, a)) := by
    unfold allCells; rw [bigSep_map, bigSep_univ_prod]; rfl
  iintro HX
  imod (Rounds.fund ER (gRd X) allCells allToks) $$ HX with ⟨Hst, Hr, Hat, Htok⟩
  imodintro
  ihave Hst := (Entails.of_eq (hX fun g => roundState ER (gRd X) g 0)) $$ Hst
  ihave Hat := (Entails.of_eq (hX fun g => atPos ER g 0 ∅ 0)) $$ Hat
  ihave Hr := (Entails.of_eq (hX fun g => reached ER g 0)) $$ Hr
  ihave Htok := (Entails.of_eq (toks_eq (F := F))) $$ Htok
  unfold G; simp only [bigSep_sep']
  isplitl [Hst]; · iexact Hst
  isplitl [Hat]; · iexact Hat
  isplitl [Hr]; · iexact Hr
  iexact Htok

/-! ## The semaphores -/

/-- The kernel's own semaphores, by kind and link. -/
abbrev osem (p : Fin 4 × Fin 24) : SemLoc sig := .dma (enc p.1 p.2)

omit [FloatOps F] in
theorem unscopedSems0_eq (c : Dv) : (unscopedSems0 c : sProp 𝕄) = semVal (barCell c) 0 := by
  unfold unscopedSems0
  rw [bigSep_eq_bigSepL_of_eq [SemLoc.reg barS] (by decide +kernel) (by decide)]; rfl

omit [FloatOps F] in
theorem ownSems0_eq (c : Dv) : (Pipeline.ownSems0 (Ix := Unit) (Name := ℕ) (U := UU) (Lvl := ℕ) (Val := Elt F) (τ := τ) osem c : sProp 𝕄)
    = bigSep Finset.univ fun p : Fin 4 × Fin 24 => semVal (kc c p.1 p.2) 0 := rfl

omit [FloatOps F] in
theorem sems0_eq (c : Dv) :
    iprop(Pipeline.ownSems0 (Ix := Unit) (Name := ℕ) (U := UU) (Lvl := ℕ) (Val := Elt F) (τ := τ) osem c ∗ unscopedSems0 c)
      ⊢ (bigSep Finset.univ fun a : CI => semVal (cell (c, a)) 0 : sProp 𝕄) := by
  rw [ownSems0_eq, unscopedSems0_eq, bigSep_cells]
  iintro ⟨H1, H2⟩
  isplitl [H2]; · iexact H2
  iexact H1

/-- A device's cells are opened. -/
theorem core_alloc (c : Dv) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun a : CI => iprop(∃ κ : ℕ, cellInv ER (gRd X) κ (cell (c, a))))
          ∗ (bigSep Finset.univ fun a : CI => atPos ER (cell (c, a)) 0 ∅ 0)
          ∗ (bigSep Finset.univ fun a : CI => reached ER (cell (c, a)) 0) ∗ toks c) := by
  have h : iprop((bigSep Finset.univ fun a : CI => semVal (cell (c, a)) 0) ∗ bigSep Finset.univ fun a : CI => roundState ER (gRd X) (cell (c, a)) 0)
      ⊢ (|={Set.univ}=> bigSep Finset.univ fun a : CI => iprop(∃ κ : ℕ, cellInv ER (gRd X) κ (cell (c, a))) : sProp 𝕄) := by
    rw [← bigSep_sep']
    exact (bigSep_mono fun a _ => (Rounds.body_intro ER (gRd X) (cell (c, a))).trans inv_alloc).trans (bigSep_fupd _ _)
  unfold G
  iintro ⟨Ho, Hu, Hst, Hat, Hr, Htok⟩
  ihave Hv := (sems0_eq (F := F) c) $$ [Ho Hu]
  · isplitl [Ho] <;> iassumption
  imod h $$ [Hv Hst] with Hinv
  · isplitl [Hv] <;> iassumption
  imodintro
  isplitl [Hinv]; · iexact Hinv
  isplitl [Hat]; · iexact Hat
  isplitl [Hr]; · iexact Hr
  iexact Htok

/-! ## The deal around the mesh -/

/-- A link's send cell on this device, and its receive cell on the next. -/
def linkE : Dv × Fin 24 ≃ Dv × Fin 24 where
  toFun p := (nxt (dir p.2) p.1, p.2)
  invFun p := (prv (dir p.2) p.1, p.2)
  left_inv p := by simp only [prv_nxt]
  right_inv p := by simp only [nxt_prv]

omit [FloatOps F] in
theorem link_around (Φ : Dv → Fin 24 → sProp 𝕄) : (bigSep Finset.univ fun c : Dv => bigSep Finset.univ fun i : Fin 24 => Φ c i)
    = bigSep Finset.univ fun c : Dv => bigSep Finset.univ fun i : Fin 24 => Φ (nxt (dir i) c) i := by
  rw [← bigSep_univ_prod (fun p : Dv × Fin 24 => Φ p.1 p.2), bigSep_univ_equiv linkE, bigSep_univ_prod]
  rfl

omit [FloatOps F] in
/-- Every token goes to the device that pays its duty. -/
theorem toks_around : (bigSep Finset.univ fun c : Dv => (toks c : sProp 𝕄)) ⊢ bigSep Finset.univ fun c : Dv => payToks c := by
  unfold toks payToks
  simp only [bigSep_sep']
  rw [bigSep_univ_equiv (nxtE 1) (fun c : Dv => (dutyTok ER (barCell c) 0 0 : sProp 𝕄)),
    bigSep_univ_equiv (nxtE 0) (fun c : Dv => (dutyTok ER (barCell c) 0 1 : sProp 𝕄)),
    bigSep_univ_equiv parE (fun c : Dv => (dutyTok ER (barCell c) 0 2 : sProp 𝕄)),
    link_around (fun c i => (dutyTok ER (kc c 1 i) 0 0 : sProp 𝕄)),
    bigSep_univ_equiv parE (fun c : Dv => (bigSep Finset.univ fun i => (dutyTok ER (kc c 3 i) 0 0 : sProp 𝕄)))]
  exact BIBase.Entails.rfl

/-- What stays with device `c`: its positions and the tokens it pays with. -/
def linear (c : Dv) : sProp 𝕄 := iprop((bigSep Finset.univ fun a : CI => atPos ER (cell (c, a)) 0 ∅ 0) ∗ payToks c)

/-- Every cell's invariant, and that its round is open. -/
def cellRecs (K : Dv × CI → ℕ) : sProp 𝕄 :=
  bigSep Finset.univ fun p : Dv × CI => iprop(cellInv ER (gRd X) (K p) (cell p) ∗ reached ER (cell p) 0)

instance cellRecs_persistent (K : Dv × CI → ℕ) : BI.Persistent (cellRecs X K) := by unfold cellRecs; infer_instance

/-- What the dealing leaves device `c` with. -/
def G' (c : Dv) : sProp 𝕄 := iprop(∃ K, cellRecs X K ∗ linear c)

omit [FloatOps F] in
/-- Something persistent may be given to every member of a family. -/
theorem give_all {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

theorem regroup :
    (bigSep Finset.univ fun c : Dv => iprop((bigSep Finset.univ fun a : CI => iprop(∃ κ : ℕ, cellInv ER (gRd X) κ (cell (c, a))))
          ∗ (bigSep Finset.univ fun a : CI => atPos ER (cell (c, a)) 0 ∅ 0)
          ∗ (bigSep Finset.univ fun a : CI => reached ER (cell (c, a)) 0) ∗ toks c) : sProp 𝕄)
      ⊢ bigSep Finset.univ (G' X) := by
  have hg (K : Dv × CI → ℕ) (c : Dv) : iprop(cellRecs X K ∗ linear c) ⊢ G' X c := by
    unfold G'; iintro H; iexists K; iexact H
  have hr (K : Dv × CI → ℕ) : iprop((bigSep Finset.univ fun p => cellInv ER (gRd X) (K p) (cell p)) ∗ bigSep Finset.univ fun p : Dv × CI => reached ER (cell p) 0)
      ⊢ cellRecs X K := by
    unfold cellRecs; rw [bigSep_sep']
  have hl : iprop((bigSep Finset.univ fun c : Dv => bigSep Finset.univ fun a : CI => atPos ER (cell (c, a)) 0 ∅ 0) ∗ bigSep Finset.univ payToks)
      ⊢ (bigSep Finset.univ linear : sProp 𝕄) := by
    unfold linear; rw [bigSep_sep']
  rw [bigSep_sep', bigSep_sep', bigSep_sep', ← bigSep_univ_prod (fun p : Dv × CI => iprop(∃ κ : ℕ, cellInv ER (gRd X) κ (cell p))),
    ← bigSep_univ_prod (fun p : Dv × CI => (reached ER (cell p) 0 : sProp 𝕄))]
  iintro ⟨HI, Hat, Hr, Htok⟩
  ihave HK := (BI.bigSep_exists_pi Finset.univ (fun (p : Dv × CI) (κ : ℕ) => (cellInv ER (gRd X) κ (cell p) : sProp 𝕄))) $$ HI
  icases HK with ⟨%K, HI⟩
  ihave Htk := (toks_around (F := F)) $$ Htok
  iapply (give_all (R := cellRecs X K) (Φ := linear) (hg K))
  isplitl [HI Hr]
  · iapply (hr K)
    isplitl [HI]; · iexact HI
    iexact Hr
  · iapply hl
    isplitl [Hat]; · iexact Hat
    iexact Htk

/-- The devices' cells are opened and the ghost state dealt. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

end Deal

end Cert.Gather
-- ==== Proof.Credits.lean ====
/-
# The launch credits

What all devices together owe a cell when they start is what its owner may wait for: the signals sent to its barrier, and one
chunk on every receive cell a copy completes on.
-/
module

public import proofs.«01_k».proof.Proof.Ghost

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem tally_kc (c c' : Dv) (k k' : Fin 4) (i i' : Fin 24) (n : ℕ) :
    tallyAt (kc c' k' i') () n (kc c k i) () = if c = c' ∧ k = k' ∧ i = i' then n else 0 := by
  rw [tallyAt_apply]
  by_cases h : c = c' ∧ k = k' ∧ i = i'
  · obtain ⟨rfl, rfl, rfl⟩ := h; rw [if_pos ⟨rfl, rfl⟩, if_pos ⟨rfl, rfl, rfl⟩]
  · rw [if_neg (fun e => h (kc_inj e.1)), if_neg h]

theorem bar_ne_kc (c c' : Dv) (k : Fin 4) (i : Fin 24) : kc c k i ≠ barCell c' := fun h => by
  have h2 : SemLoc.dma (enc k i) = SemLoc.reg barS := congrArg (fun g : GSem nD τ sig => g.2) h
  cases h2

theorem tally_kc_bar (c c' : Dv) (k : Fin 4) (i : Fin 24) (n : ℕ) : tallyAt (barCell c') () n (kc c k i) () = 0 := by
  rw [tallyAt_apply, if_neg fun e => bar_ne_kc _ _ _ _ e.1]
theorem tally_bar_kc (c c' : Dv) (k : Fin 4) (i : Fin 24) (n : ℕ) : tallyAt (kc c' k i) () n (barCell c) () = 0 := by
  rw [tallyAt_apply, if_neg fun e => bar_ne_kc _ _ _ _ e.1.symm]
theorem tally_bar (c c' : Dv) (n : ℕ) : tallyAt (barCell c') () n (barCell c) () = if c = c' then n else 0 := by
  rw [tallyAt_apply]
  by_cases h : c = c'
  · subst h; rw [if_pos ⟨rfl, rfl⟩, if_pos rfl]
  · rw [if_neg (fun e => h (congrArg (fun g : GSem nD τ sig => g.1.1) e.1)), if_neg h]

/-- A sum of tallies read at a cell. -/
theorem sum_at (S : Finset (Fin 24)) (T : Fin 24 → CellTallies nD τ sig Unit) (g : GSem nD τ sig) (u : Unit) :
    (∑ i ∈ S, T i) g u = ∑ i ∈ S, T i g u := by
  rw [Finset.sum_apply, Finsupp.finset_sum_apply]

theorem from_zero : Finset.univ.filter (fun i : Fin 24 => 0 ≤ i.val) = Finset.univ := Finset.filter_true_of_mem fun _ _ => Nat.zero_le _

theorem add_at (T T' : CellTallies nD τ sig Unit) (g : GSem nD τ sig) (u : Unit) : (T + T') g u = T g u + T' g u := by
  rw [Pi.add_apply, Finsupp.add_apply]

theorem tB_kc (d c : Dv) (e : ℕ) (k : Fin 4) (i : Fin 24) : tB d e (kc c k i) () = 0 := by
  unfold tB; split
  · exact tally_kc_bar _ _ _ _ _
  · rfl
theorem tB_bar (d c : Dv) (e : ℕ) : tB d e (barCell c) () = if pos e d ≤ 2 ∧ c = nxt e d then 1 else 0 := by
  unfold tB
  by_cases h : pos e d ≤ 2
  · rw [if_pos h, tally_bar]
    exact if_congr ⟨fun e => ⟨h, e⟩, fun e => e.2⟩ rfl rfl
  · rw [if_neg h, if_neg fun e => h e.1]; rfl

/-- What device `d` owes a copy's cell of `c`. -/
theorem owed_kc (d c : Dv) (k : Fin 4) (i : Fin 24) :
    o₀ d (kc c k i) () = oS d 0 (kc c k i) () + oF d 0 (kc c k i) () := by
  unfold o₀ o₁ o₂
  rw [add_at, add_at, add_at, add_at, tB_kc, tB_kc, tally_kc_bar]
  simp only [Nat.add_zero]

theorem oS_kc (d c : Dv) (k : Fin 4) (i : Fin 24) :
    oS d 0 (kc c k i) () = if k = 1 ∧ rs d i ∧ c = nxt (dir i) d then N else 0 := by
  unfold oS
  rw [sum_at, from_zero, Finset.sum_eq_single i]
  · unfold tS
    by_cases h : rs d i
    · rw [if_pos h, tally_kc]
      exact if_congr ⟨fun e => ⟨e.2.1, h, e.1⟩, fun e => ⟨e.2.2, e.1, rfl⟩⟩ rfl rfl
    · rw [if_neg h, if_neg fun e => h e.2.1]; rfl
  · intro j _ hj
    unfold tS
    split
    · rw [tally_kc, if_neg fun e => hj e.2.2.symm]
    · rfl
  · exact fun h => absurd (Finset.mem_univ _) h

theorem oF_kc (d c : Dv) (k : Fin 4) (i : Fin 24) :
    oF d 0 (kc c k i) () = if k = 3 ∧ rr d i ∧ c = par d then N else 0 := by
  unfold oF
  rw [sum_at, from_zero, Finset.sum_eq_single i]
  · unfold tF
    by_cases h : rr d i
    · rw [if_pos h, tally_kc]
      exact if_congr ⟨fun e => ⟨e.2.1, h, e.1⟩, fun e => ⟨e.2.2, e.1, rfl⟩⟩ rfl rfl
    · rw [if_neg h, if_neg fun e => h e.2.1]; rfl
  · intro j _ hj
    unfold tF
    split
    · rw [tally_kc, if_neg fun e => hj e.2.2.symm]
    · rfl
  · exact fun h => absurd (Finset.mem_univ _) h

/-- A sum with one member. -/
theorem sum_one {P : Dv → Prop} [DecidablePred P] (d₀ : Dv) {q : Prop} [Decidable q] (n : ℕ) (h : ∀ d, P d ↔ q ∧ d = d₀) :
    (∑ d : Dv, if P d then n else 0) = if q then n else 0 := by
  rw [Finset.sum_eq_single d₀]
  · exact if_congr ((h d₀).trans ⟨fun e => e.1, fun e => ⟨e, rfl⟩⟩) rfl rfl
  · intro d _ hd; rw [if_neg fun e => hd ((h d).mp e).2]
  · exact fun h => absurd (Finset.mem_univ _) h

theorem sum_line (c : Dv) (i : Fin 24) : ∑ d : Dv, o₀ d (kc c 1 i) () = if rr c i then N else 0 := by
  rw [Finset.sum_congr rfl fun d _ => (owed_kc d c 1 i).trans (by rw [oF_kc, if_neg fun e => absurd e.1 (by decide), Nat.add_zero, oS_kc])]
  refine sum_one (prv (dir i) c) N fun d => ⟨?_, ?_⟩
  · rintro ⟨-, h, rfl⟩; exact ⟨(rs_iff d i).mp h, (prv_nxt _ _).symm⟩
  · rintro ⟨h, rfl⟩; exact ⟨rfl, (rr_iff c i).mp h, (nxt_prv _ _).symm⟩

theorem sum_par (c : Dv) (i : Fin 24) : ∑ d : Dv, o₀ d (kc c 3 i) () = if rr c i then N else 0 := by
  rw [Finset.sum_congr rfl fun d _ => (owed_kc d c 3 i).trans (by rw [oS_kc, if_neg fun e => absurd e.1 (by decide), Nat.zero_add, oF_kc])]
  refine sum_one (par c) N fun d => ⟨?_, ?_⟩
  · rintro ⟨-, h, rfl⟩; exact ⟨(rr_par d i).mpr h, (par_par _).symm⟩
  · rintro ⟨h, rfl⟩; exact ⟨rfl, (rr_par c i).mpr h, (par_par _).symm⟩

/-- What device `d` owes the barrier of `c`. -/
theorem owed_bar (d c : Dv) : o₀ d (barCell c) ()
    = (if c = par d then 1 else 0) + (if pos 0 d ≤ 2 ∧ c = nxt 0 d then 1 else 0) + (if pos 1 d ≤ 2 ∧ c = nxt 1 d then 1 else 0) := by
  have hS : oS d 0 (barCell c) () = 0 := by
    unfold oS
    rw [sum_at]
    refine Finset.sum_eq_zero fun j _ => ?_
    unfold tS; split
    · exact tally_bar_kc _ _ _ _ _
    · rfl
  have hF : oF d 0 (barCell c) () = 0 := by
    unfold oF
    rw [sum_at]
    refine Finset.sum_eq_zero fun j _ => ?_
    unfold tF; split
    · exact tally_bar_kc _ _ _ _ _
    · rfl
  unfold o₀ o₁ o₂
  rw [add_at, add_at, add_at, add_at, hS, hF, tB_bar, tB_bar, tally_bar, Nat.zero_add]

theorem count_bar : ∀ c : Dv, (∑ d : Dv, ((if c = par d then 1 else 0) + (if pos 0 d ≤ 2 ∧ c = nxt 0 d then 1 else 0)
    + (if pos 1 d ≤ 2 ∧ c = nxt 1 d then 1 else 0))) = (Finset.univ.filter (barUsed c)).card := by decide +kernel

theorem sum_bar (c : Dv) : ∑ d : Dv, o₀ d (barCell c) () = (Finset.univ.filter (barUsed c)).card := by
  rw [Finset.sum_congr rfl fun d _ => owed_bar d c]; exact count_bar c

/-- A cell's launch credit, from what is owed it. -/
theorem launch_at {g : GSem nD τ sig} {n : ℕ} (h : ∑ d : Dv, o₀ d g () = n) :
    tallyOn g (launchCredit (Pipeline.owing o₀) 0 g) = (tallyAt g () n : CellTallies nD τ sig Unit) := by
  unfold tallyAt; refine congrArg _ (Finsupp.ext fun u => ?_); cases u
  rw [Pipeline.launchCredit_owing, Finsupp.single_eq_same, h]

/-- A device's launch credits: the barrier's, and its receive cells'. -/
theorem creds (c : Dv) : (Pipeline.launchCred o₀ c : sProp 𝕄)
    ⊢ iprop(cred (tallyAt (barCell c) () (Finset.univ.filter (barUsed c)).card)
        ∗ bigSep Finset.univ (creditP (F := F) c 1) ∗ bigSep Finset.univ (creditP (F := F) c 3)) := by
  have hk : ∀ (k : Fin 4), (∀ i, ∑ d : Dv, o₀ d (kc c k i) () = if rr c i then N else 0) →
      (bigSep Finset.univ fun i : Fin 24 => cred (tallyOn (kc c k i) (launchCredit (Pipeline.owing o₀) 0 (kc c k i))))
        ⊢ (bigSep Finset.univ (creditP (F := F) c k) : sProp 𝕄) := fun k h => each_mono fun i => by
    have hi := h i
    unfold creditP
    by_cases hr : rr c i
    · rw [if_pos hr] at hi
      rw [if_pos hr, launch_at hi]
    · rw [if_neg hr]; iintro -; iempintro
  have hs : (Pipeline.launchCred o₀ c : sProp 𝕄)
      ⊢ bigSep Finset.univ fun a : CI => cred (tallyOn (cell (c, a)) (launchCredit (Pipeline.owing o₀) 0 (cell (c, a)))) := by
    unfold Pipeline.launchCred
    refine (bigSep_subset (Finset.subset_univ (Finset.univ.map ⟨csem, csem_inj⟩))).trans ?_
    rw [bigSep_map]
    exact BI.Entails.refl _
  refine hs.trans ?_
  have e : (bigSep Finset.univ fun p : Fin 4 × Fin 24 => cred (tallyOn (cell (c, some p)) (launchCredit (Pipeline.owing o₀) 0 (cell (c, some p)))) : sProp 𝕄) = _ :=
    bigSep_kinds (fun k i => (cred (tallyOn (kc c k i) (launchCredit (Pipeline.owing o₀) 0 (kc c k i))) : sProp 𝕄))
  rw [bigSep_cells, e,
    show tallyOn (cell (c, none)) (launchCredit (Pipeline.owing o₀) 0 (cell (c, none))) = _ from launch_at (sum_bar c)]
  iintro ⟨Hb, -, H1, -, H3⟩
  isplitl [Hb]; · iexact Hb
  isplitl [H1]
  · iapply (hk 1 (sum_line c)); iexact H1
  iapply (hk 3 (sum_par c)); iexact H3

end Cert.Gather
-- ==== Proof.Meet.lean ====
/-
# From the launch to the body and back

What the launch leaves a device with, together with its staged buffers, is what its body starts from; what the body ends with is
the staged buffers holding the block and the gathered result, and every semaphore at zero.
-/
module

public import proofs.«01_k».proof.Proof.Credits

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Meet
variable (X : Dv → XC F) (K : Dv × CI → ℕ) (c : Dv)

/-- Three families merge into one. -/
theorem zip3 {I : Type} [Fintype I] {Φ Ψ Θ : I → sProp 𝕄} :
    iprop(bigSep Finset.univ Φ ∗ bigSep Finset.univ Ψ ∗ bigSep Finset.univ Θ) ⊢ bigSep Finset.univ fun i => iprop(Φ i ∗ Ψ i ∗ Θ i) :=
  Entails.of_eq (by rw [bigSep_sep', bigSep_sep'])

theorem linear_eq : (linear c : sProp 𝕄) = iprop((atPos ER (barCell c) 0 ∅ 0
    ∗ (bigSep Finset.univ fun i => atPos ER (kc c 0 i) 0 ∅ 0) ∗ (bigSep Finset.univ fun i => atPos ER (kc c 1 i) 0 ∅ 0)
    ∗ (bigSep Finset.univ fun i => atPos ER (kc c 2 i) 0 ∅ 0) ∗ (bigSep Finset.univ fun i => atPos ER (kc c 3 i) 0 ∅ 0)) ∗ payToks c) := by
  have e : (bigSep Finset.univ fun p : Fin 4 × Fin 24 => atPos ER (cell (c, some p)) 0 ∅ 0 : sProp 𝕄) = _ :=
    bigSep_kinds (fun k i => (atPos ER (kc c k i) 0 ∅ 0 : sProp 𝕄))
  unfold linear
  rw [bigSep_cells, e]; rfl

/-- What a device has when its body starts, but for its buffers and what it owes. -/
def ready : sProp 𝕄 :=
  iprop(cellRecs X K ∗ linear c ∗ cred (tallyAt (barCell c) () (Finset.univ.filter (barUsed c)).card)
    ∗ bigSep Finset.univ (creditP (F := F) c 1) ∗ bigSep Finset.univ (creditP (F := F) c 3) ∗ levAts L lv)

theorem rest_intro {R : sProp 𝕄} :
    iprop(((bigSep Finset.univ fun i => atPos ER (kc c 0 i) 0 ∅ 0) ∗ (bigSep Finset.univ fun i => atPos ER (kc c 1 i) 0 ∅ 0)
        ∗ (bigSep Finset.univ fun i => atPos ER (kc c 2 i) 0 ∅ 0) ∗ (bigSep Finset.univ fun i => atPos ER (kc c 3 i) 0 ∅ 0))
      ∗ ((bigSep Finset.univ fun i => dutyTok ER (kc c 0 i) 0 0) ∗ (bigSep Finset.univ fun i => dutyTok ER (kc (nxt (dir i) c) 1 i) 0 0)
        ∗ (bigSep Finset.univ fun i => dutyTok ER (kc c 2 i) 0 0) ∗ (bigSep Finset.univ fun i => dutyTok ER (kc (par c) 3 i) 0 0))
      ∗ bigSep Finset.univ (creditP (F := F) c 1) ∗ bigSep Finset.univ (creditP (F := F) c 3) ∗ xParts X c ∗ R)
    ⊢ Rest X c R := by
  have hf : (bigSep Finset.univ fun i => atPos ER (kc c 2 i) 0 ∅ 0 : sProp 𝕄) ⊢ bigSep Finset.univ (fwdF X c 0 0) := each_mono fun i => by
    unfold fwdF
    rw [if_neg (by omega), if_neg (by omega)]
    iintro H
    isplitl; · iexact H
    iempintro
  have hg : iprop((bigSep Finset.univ fun i => atPos ER (kc c 3 i) 0 ∅ 0) ∗ bigSep Finset.univ (creditP (F := F) c 3))
      ⊢ bigSep Finset.univ (getF X c 0) := zip_mono fun i => by
    unfold getF
    rw [if_neg (by omega)]
  have h4 : iprop((bigSep Finset.univ fun i => atPos ER (kc c 1 i) 0 ∅ 0) ∗ bigSep Finset.univ (creditP (F := F) c 1)
        ∗ (bigSep Finset.univ fun i => dutyTok ER (kc c 2 i) 0 0) ∗ (bigSep Finset.univ fun i => dutyTok ER (kc (par c) 3 i) 0 0))
      ⊢ (bigSep Finset.univ fun i => iprop(atPos ER (kc c 1 i) 0 ∅ 0 ∗ creditP c 1 i ∗ dutyTok ER (kc c 2 i) 0 0 ∗ dutyTok ER (kc (par c) 3 i) 0 0) : sProp 𝕄) :=
    Entails.of_eq (by rw [bigSep_sep', bigSep_sep', bigSep_sep'])
  unfold Rest
  iintro ⟨⟨Ha0, Ha1, Ha2, Ha3⟩, ⟨Ht0, Ht1, Ht2, Ht3⟩, Hc1, Hc3, Hx, HR⟩
  isplitl [Ha0 Ht0 Ht1]
  · iapply (zip3 (F := F))
    isplitl [Ha0]; · iexact Ha0
    isplitl [Ht0]; · iexact Ht0
    iexact Ht1
  isplitl [Hx]; · iapply (src_start X c); iexact Hx
  isplitl [Ha1 Hc1 Ht2 Ht3]
  · iapply h4
    isplitl [Ha1]; · iexact Ha1
    isplitl [Hc1]; · iexact Hc1
    isplitl [Ht2]; · iexact Ht2
    iexact Ht3
  isplitl [Ha2]; · iapply hf; iexact Ha2
  isplitl [Ha3 Hc3]
  · iapply hg
    isplitl [Ha3]; · iexact Ha3
    iexact Hc3
  iexact HR

/-- The body's start, and the part of the block no copy reads beside it. -/
theorem beg_intro (f : OC F) :
    iprop(ready X K c ∗ (∃ W, owes (c : Thread nD τ) (o₀ c) W) ∗ (xLoc c ↦[Finset.univ]{fullShare} X c) ∗ (oLoc c ↦[Finset.univ]{fullShare} f))
      ⊢ iprop(Beg X K c iprop(ownX X c ∗ ownO c) ∗ xOther X c) := by
  unfold ready Beg recs
  rw [linear_eq]
  unfold payToks
  iintro ⟨⟨HK, ⟨⟨Hb, Ha⟩, ⟨Hd0, Hd1, Hd2⟩, Ht⟩, Hcb, Hc1, Hc3, Hl⟩, HO, Hx, Ho⟩
  ihave Hx := (x_split X c).1 $$ Hx
  icases Hx with ⟨Hx1, Hx2, Hx3⟩
  ihave Ho := (out_start c f) $$ Ho
  icases Ho with ⟨Ho1, Ho2, Ho3⟩
  ihave Ho2 := (dir_split (F := F) c) $$ Ho2
  icases Ho2 with ⟨Ho20, Ho21⟩
  isplitr [Hx3]
  · isplitl [HK Hl]
    · isplitl [HK]
      · iapply (show cellRecs X K ⊢ bigSep Finset.univ fun p : Dv × CI => iprop(cellInv ER (gRd X) (K p) (cell p) ∗ reached ER (cell p) 0) from BIBase.Entails.rfl)
        iexact HK
      iexact Hl
    isplitl [HO]; · iexact HO
    isplitl [Hd0]; · iexact Hd0
    isplitl [Ho20]; · iexact Ho20
    isplitl [Hd1]; · iexact Hd1
    isplitl [Ho21]; · iexact Ho21
    isplitl [Hd2]; · iexact Hd2
    isplitl [Ho3]; · iexact Ho3
    isplitl [Hcb]; · iexact Hcb
    isplitl [Hb]; · iexact Hb
    iapply (rest_intro X c)
    isplitl [Ha]; · iexact Ha
    isplitl [Ht]; · iexact Ht
    isplitl [Hc1]; · iexact Hc1
    isplitl [Hc3]; · iexact Hc3
    isplitl [Hx2]; · iexact Hx2
    isplitl [Hx1]; · iexact Hx1
    iexact Ho1
  iexact Hx3

/-- Every semaphore of the kernel at zero. -/
def zeros : sProp 𝕄 := iprop((bigSep Finset.univ fun p : Fin 4 × Fin 24 => semVal (kc c p.1 p.2) 0) ∗ semVal (barCell c) 0)

theorem end_elim :
    iprop(St X K c 24 24 24 24 24 iprop(semVal (barCell c) 0 ∗ ownX X c ∗ ownG X c) ∗ xOther X c)
      ⊢ iprop(zeros c ∗ (∃ W, owes (c : Thread nD τ) 0 W) ∗ (xLoc c ↦[Finset.univ]{fullShare} X c) ∗ (oLoc c ↦[Finset.univ]{fullShare} gath X c)) := by
  have h0 : bigSep Finset.univ (sendF X c 24 24) ⊢ (bigSep Finset.univ fun i => semVal (kc c 0 i) 0 : sProp 𝕄) := each_mono fun i => by
    unfold sendF; rw [if_pos i.isLt]
  have h1 : bigSep Finset.univ (recvF (F := F) c 24) ⊢ (bigSep Finset.univ fun i => semVal (kc c 1 i) 0 : sProp 𝕄) := each_mono fun i => by
    unfold recvF; rw [if_pos i.isLt]
  have h2 : bigSep Finset.univ (fwdF X c 24 24) ⊢ iprop((bigSep Finset.univ fun i => semVal (kc c 2 i) 0) ∗ bigSep Finset.univ (lent X c)) :=
    (each_mono fun i => by unfold fwdF; rw [if_pos i.isLt]).trans (Entails.of_eq (bigSep_sep' Finset.univ (fun i => semVal (kc c 2 i) 0) (lent X c)))
  have h3 : bigSep Finset.univ (getF X c 24) ⊢ iprop((bigSep Finset.univ fun i => semVal (kc c 3 i) 0) ∗ bigSep Finset.univ (gift X c)) :=
    (each_mono fun i => by unfold getF; rw [if_pos i.isLt]).trans (Entails.of_eq (bigSep_sep' Finset.univ (fun i => semVal (kc c 3 i) 0) (gift X c)))
  have hO : oS c 24 + oF c 24 = 0 := by rw [oS_end, oF_end, add_zero]
  unfold St zeros
  rw [hO, bigSep_kinds (fun k i => (semVal (kc c k i) 0 : sProp 𝕄))]
  iintro ⟨⟨-, HO, H0, Hs, H1, H2, H3, Hb, Hx, Hg⟩, Hx3⟩
  ihave H0 := h0 $$ H0
  ihave H1 := h1 $$ H1
  ihave H2 := h2 $$ H2
  icases H2 with ⟨H2, Hlent⟩
  ihave H3 := h3 $$ H3
  icases H3 with ⟨H3, Hgift⟩
  ihave Hs := (src_end X c) $$ Hs
  icases Hs with ⟨Hx2, Hheld⟩
  isplitl [H0 H1 H2 H3 Hb]
  · isplitr [Hb]
    · isplitl [H0]; · iexact H0
      isplitl [H1]; · iexact H1
      isplitl [H2]; · iexact H2
      iexact H3
    iexact Hb
  isplitl [HO]; · iexact HO
  isplitl [Hx Hx2 Hx3]
  · iapply (x_split X c).2
    isplitl [Hx]; · iexact Hx
    isplitl [Hx2]; · iexact Hx2
    iexact Hx3
  iapply (out_end X c)
  isplitl [Hg]; · iexact Hg
  isplitl [Hheld]; · iexact Hheld
  isplitl [Hlent]; · iexact Hlent
  iexact Hgift

end Meet

end Cert.Gather
-- ==== Proof.BodyFirst.lean ====
/-
# The body, part by part: the sends and the receives

The kernel's text is cut into sixteen parts and an end; each part here takes one state to the next.
-/
module

public import proofs.«01_k».proof.Proof.Own

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : Dv → XC F} {K : Dv × CI → ℕ} {c : Dv} {R : sProp (MT nD τ sig Unit (Elt F) ℕ UU ℕ)}

/-- The end of a part. -/
theorem done {α : Type} {P : sProp 𝕄} {Q : α → sProp 𝕄} {x : α} (h : P ⊢ Q x) : P ⊢ run c (pure x) Q := by
  show _ ⊢ run c (.ret x) Q
  iintro H
  unfold run; rw [wp_ret]; imodintro
  iapply h; iexact H

/-- The device reads its own place. -/
theorem step_dev {α : Type} {P : sProp 𝕄} {Q : α → sProp 𝕄} {Kp : Dv → PG F α} (hk : P ⊢ run c (Kp c) Q) :
    P ⊢ run c (Prog.lift .deviceId >>= Kp) Q := by
  show P ⊢ run c (.op .deviceId Kp) Q
  unfold run at *
  rw [wp_deviceId]
  exact hk

/-- The first part: the signals to the neighbours and to the partner. -/
theorem part1_run (h0 : xM.IsWhole) (h1 : oM.IsWhole) {Q} (hk : ∀ v2 v5 v8 v9 v11 v12 v13 v14 v30 v31,
      Wt X K c R ⊢ Q ⟨c, v2, v5, v8, v9, v11, v12, v13, v14, SemArray.scalar (sig.barrier 0 rfl), v30, v31⟩) :
    Beg X K c R ⊢ run c (k0_part1 xM h0 oM h1 cc0_scratch0 cc0_scratch1 cc0_scratch2 cc0_scratch3 cc0_scratch4 cc0_scratch5) Q := by
  rw [k0_part1_eq_skeleton]; unfold k0_part1_skel
  refine step_dev ?_
  unfold Beg
  refine step_sig 0 1 (by decide) nxt_zero (O := o₁ c) rfl ?_ rfl
  refine step_sig 1 0 (by decide) nxt_one (O := o₂ c) rfl ?_ rfl
  rw [← barPay_par]
  refine sig_core 2 (.inl rfl) ?_ rfl rfl ?_
  · exact Fin.ext ((show ∀ c : Dv, k0_dev3 c = (par c).val by decide +kernel) c)
  · exact done (hk _ _ _ _ _ _ _ _ _ _)

/-- The second part: the wait for the signals, and the first sends. -/
theorem part2_run (h0 : xM.IsWhole) (h1 : oM.IsWhole) (v2 v5 v8 v9 v12 v13 v30 v31) :
    Wt X K c R
      ⊢ run c (k0_part2 xM h0 oM h1 cc0_scratch0 cc0_scratch1 cc0_scratch2 cc0_scratch3 cc0_scratch4 cc0_scratch5 c v2 v5 v8 v9 v12 v13
          (SemArray.scalar (sig.barrier 0 rfl)) v30 v31)
        (fun _ => St X K c 5 0 0 0 0 iprop(semVal (barCell c) 0 ∗ R)) := by
  rw [k0_part2_eq_skeleton]; unfold k0_part2_skel
  refine step_bar ?_ rfl ((show ∀ c : Dv, (k0_amt1 c).toInt = ((Finset.univ.filter (barUsed c)).card : ℤ) by decide +kernel) c)
  refine step_first 0 (by decide) ?_
  refine step_first 1 (by decide) ?_
  refine step_first 2 (by decide) ?_
  refine step_first 3 (by decide) ?_
  refine step_first 4 (by decide) ?_
  exact done BIBase.Entails.rfl

theorem part3_run (h0 : xM.IsWhole) (h1 : oM.IsWhole) (v2 v5 v8 v9 v12 v13 v14 v64) :
    St X K c 5 0 0 0 0 iprop(R ∗ ownX X c ∗ ownO c)
      ⊢ run c (k0_part3 xM h0 oM h1 cc0_scratch0 cc0_scratch1 cc0_scratch2 cc0_scratch3 cc0_scratch4 cc0_scratch5 c v2 v5 v8 v9 v12 v13 v14 v64)
        (fun _ => St X K c 8 4 0 0 0 iprop(R ∗ ownX X c ∗ ownG X c)) := by
  rw [k0_part3_eq_skeleton]; unfold k0_part3_skel
  refine step_first 5 (by decide) ?_
  refine step_first 6 (by decide) ?_
  refine step_first 7 (by decide) ?_
  refine step_own ?_ (by decide +kernel)
  refine step_recv 0 (by decide) (by decide) ?_
  refine step_recv 1 (by decide) (by decide) ?_
  refine step_recv 2 (by decide) (by decide) ?_
  refine step_recv 3 (by decide) (by decide) ?_
  exact done BIBase.Entails.rfl

theorem part4_run (h0 : xM.IsWhole) (h1 : oM.IsWhole) (v2 v5 v8 v9 v12 v13 v14 v95) :
    St X K c 8 4 0 0 0 R
      ⊢ run c (k0_part4 xM h0 oM h1 cc0_scratch0 cc0_scratch1 cc0_scratch2 cc0_scratch3 cc0_scratch4 cc0_scratch5 c v2 v5 v8 v9 v12 v13 v14 v95)
        (fun _ => St X K c 11 8 0 0 0 R) := by
  rw [k0_part4_eq_skeleton]; unfold k0_part4_skel
  refine step_recv 4 (by decide) (by decide) ?_
  refine step_recv 5 (by decide) (by decide) ?_
  refine step_recv 6 (by decide) (by decide) ?_
  refine step_recv 7 (by decide) (by decide) ?_
  refine step_later 8 (by decide) (by decide) ?_
  refine step_later 9 (by decide) (by decide) ?_
  refine step_later 10 (by decide) (by decide) ?_
  exact done BIBase.Entails.rfl

theorem part5_run (h0 : xM.IsWhole) (h1 : oM.IsWhole) (v2 v5 v8 v9 v12 v13 v14 v127 w) :
    St X K c 11 8 0 0 0 R
      ⊢ run c (k0_part5 xM h0 oM h1 cc0_scratch0 cc0_scratch1 cc0_scratch2 cc0_scratch3 cc0_scratch4 cc0_scratch5 c v2 v5 v8 v9 v12 v13 v14 v127 w)
        (fun _ => St X K c 16 11 0 0 0 R) := by
  rw [k0_part5_eq_skeleton]; unfold k0_part5_skel
  refine step_later 11 (by decide) (by decide) ?_
  refine step_later 12 (by decide) (by decide) ?_
  refine step_later 13 (by decide) (by decide) ?_
  refine step_later 14 (by decide) (by decide) ?_
  refine step_later 15 (by decide) (by decide) ?_
  refine step_recv 8 (by decide) (by decide) ?_
  refine step_recv 9 (by decide) (by decide) ?_
  refine step_recv 10 (by decide) (by decide) ?_
  exact done BIBase.Entails.rfl

end Cert.Gather
-- ==== Proof.BodyLast.lean ====
/-
# The body, part by part: the last step of the line

The third round of sends and receives, and the first waits for the partner.
-/
module

public import proofs.«01_k».proof.Proof.BodyFirst

@[expose] public section

set_option maxHeartbeats 2000000

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : Dv → XC F} {K : Dv × CI → ℕ} {c : Dv} {R : sProp (MT nD τ sig Unit (Elt F) ℕ UU ℕ)}

theorem part6_run (h0 : xM.IsWhole) (h1 : oM.IsWhole) (v2 v5 v8 v9 v12 v13 v14) :
    St X K c 16 11 0 0 0 R
      ⊢ run c (k0_part6 xM h0 oM h1 cc0_scratch0 cc0_scratch1 cc0_scratch2 cc0_scratch3 cc0_scratch4 cc0_scratch5 c v2 v5 v8 v9 v12 v13 v14)
        (fun _ => St X K c 19 16 0 0 0 R) := by
  rw [k0_part6_eq_skeleton]; unfold k0_part6_skel
  refine step_recv 11 (by decide) (by decide) ?_
  refine step_recv 12 (by decide) (by decide) ?_
  refine step_recv 13 (by decide) (by decide) ?_
  refine step_recv 14 (by decide) (by decide) ?_
  refine step_recv 15 (by decide) (by decide) ?_
  refine step_later 16 (by decide) (by decide) ?_
  refine step_later 17 (by decide) (by decide) ?_
  refine step_later 18 (by decide) (by decide) ?_
  exact done BIBase.Entails.rfl

theorem part7_run (h0 : xM.IsWhole) (h1 : oM.IsWhole) (v2 v5 v8 v9 v12 v13 v14 w) :
    St X K c 19 16 0 0 0 R
      ⊢ run c (k0_part7 xM h0 oM h1 cc0_scratch0 cc0_scratch1 cc0_scratch2 cc0_scratch3 cc0_scratch4 cc0_scratch5 c v2 v5 v8 v9 v12 v13 v14 w)
        (fun _ => St X K c 24 17 0 0 0 R) := by
  rw [k0_part7_eq_skeleton]; unfold k0_part7_skel
  refine step_later 19 (by decide) (by decide) ?_
  refine step_later 20 (by decide) (by decide) ?_
  refine step_later 21 (by decide) (by decide) ?_
  refine step_later 22 (by decide) (by decide) ?_
  refine step_later 23 (by decide) (by decide) ?_
  refine step_recv 16 (by decide) (by decide) ?_
  exact done BIBase.Entails.rfl

theorem part8_run (h0 : xM.IsWhole) (h1 : oM.IsWhole) (v2 v5 v8 v9 v11 v12 v13 v14 v223 w) :
    St X K c 24 17 0 0 0 R
      ⊢ run c (k0_part8 xM h0 oM h1 cc0_scratch0 cc0_scratch1 cc0_scratch2 cc0_scratch3 cc0_scratch4 cc0_scratch5 c v2 v5 v8 v9 v11 v12 v13 v14 v223 w)
        (fun _ => St X K c 24 24 0 3 0 R) := by
  rw [k0_part8_eq_skeleton]; unfold k0_part8_skel
  refine step_recv 17 (by decide) (by decide) ?_
  refine step_recv 18 (by decide) (by decide) ?_
  refine step_recv 19 (by decide) (by decide) ?_
  refine step_recv 20 (by decide) (by decide) ?_
  refine step_recv 21 (by decide) (by decide) ?_
  refine step_recv 22 (by decide) (by decide) ?_
  refine step_recv 23 (by decide) (by decide) ?_
  refine step_get 0 ?_
  refine step_get 1 ?_
  refine step_get 2 ?_
  exact done BIBase.Entails.rfl

end Cert.Gather
-- ==== Proof.BodyWaits.lean ====
/-
# The body, part by part: the waits

The partner's chunks come in, and every send is waited for.
-/
module

public import proofs.«01_k».proof.Proof.BodyFirst

@[expose] public section

set_option maxHeartbeats 2000000

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : Dv → XC F} {K : Dv × CI → ℕ} {c : Dv} {R : sProp (MT nD τ sig Unit (Elt F) ℕ UU ℕ)}

theorem part9_run (h0 : xM.IsWhole) (h1 : oM.IsWhole) (v5 v8 v11 v14 v w) :
    St X K c 24 24 0 3 0 R
      ⊢ run c (k0_part9 xM h0 oM h1 cc0_scratch0 cc0_scratch1 cc0_scratch2 cc0_scratch3 cc0_scratch4 cc0_scratch5 c v5 v8 v11 v14 v w)
        (fun _ => St X K c 24 24 0 13 0 R) := by
  rw [k0_part9_eq_skeleton]; unfold k0_part9_skel
  refine step_get 3 ?_
  refine step_get 4 ?_
  refine step_get 5 ?_
  refine step_get 6 ?_
  refine step_get 7 ?_
  refine step_get 8 ?_
  refine step_get 9 ?_
  refine step_get 10 ?_
  refine step_get 11 ?_
  refine step_get 12 ?_
  exact done BIBase.Entails.rfl

theorem part10_run (h0 : xM.IsWhole) (h1 : oM.IsWhole) (v5 v8 v11 v14 v w) :
    St X K c 24 24 0 13 0 R
      ⊢ run c (k0_part10 xM h0 oM h1 cc0_scratch0 cc0_scratch1 cc0_scratch2 cc0_scratch3 cc0_scratch4 cc0_scratch5 c v5 v8 v11 v14 v w)
        (fun _ => St X K c 24 24 0 23 0 R) := by
  rw [k0_part10_eq_skeleton]; unfold k0_part10_skel
  refine step_get 13 ?_
  refine step_get 14 ?_
  refine step_get 15 ?_
  refine step_get 16 ?_
  refine step_get 17 ?_
  refine step_get 18 ?_
  refine step_get 19 ?_
  refine step_get 20 ?_
  refine step_get 21 ?_
  refine step_get 22 ?_
  exact done BIBase.Entails.rfl

theorem part11_run (h0 : xM.IsWhole) (h1 : oM.IsWhole) (v5 v8 v11 v14 v w) :
    St X K c 24 24 0 23 0 R
      ⊢ run c (k0_part11 xM h0 oM h1 cc0_scratch0 cc0_scratch1 cc0_scratch2 cc0_scratch3 cc0_scratch4 cc0_scratch5 c v5 v8 v11 v14 v w)
        (fun _ => St X K c 24 24 4 24 2 R) := by
  rw [k0_part11_eq_skeleton]; unfold k0_part11_skel
  refine step_get 23 ?_
  refine step_sent 0 ?_
  refine step_sent 1 ?_
  refine step_fwd 0 ?_
  refine step_fwd 1 ?_
  refine step_sent 2 ?_
  refine step_sent 3 ?_
  exact done BIBase.Entails.rfl

theorem part12_run (h0 : xM.IsWhole) (h1 : oM.IsWhole) (v5 v w) :
    St X K c 24 24 4 24 2 R
      ⊢ run c (k0_part12 xM h0 oM h1 cc0_scratch0 cc0_scratch1 cc0_scratch2 cc0_scratch3 cc0_scratch4 cc0_scratch5 c v5 v w)
        (fun _ => St X K c 24 24 8 24 6 R) := by
  rw [k0_part12_eq_skeleton]; unfold k0_part12_skel
  refine step_fwd 2 ?_
  refine step_fwd 3 ?_
  refine step_sent 4 ?_
  refine step_sent 5 ?_
  refine step_fwd 4 ?_
  refine step_fwd 5 ?_
  refine step_sent 6 ?_
  refine step_sent 7 ?_
  exact done BIBase.Entails.rfl

theorem part13_run (h0 : xM.IsWhole) (h1 : oM.IsWhole) (v5) :
    St X K c 24 24 8 24 6 R
      ⊢ run c (k0_part13 xM h0 oM h1 cc0_scratch0 cc0_scratch1 cc0_scratch2 cc0_scratch3 cc0_scratch4 cc0_scratch5 c v5)
        (fun _ => St X K c 24 24 11 24 10 R) := by
  rw [k0_part13_eq_skeleton]; unfold k0_part13_skel
  refine step_fwd 6 ?_
  refine step_fwd 7 ?_
  refine step_sent 8 ?_
  refine step_sent 9 ?_
  refine step_fwd 8 ?_
  refine step_fwd 9 ?_
  refine step_sent 10 ?_
  exact done BIBase.Entails.rfl

theorem part14_run (h0 : xM.IsWhole) (h1 : oM.IsWhole) (v5 v) :
    St X K c 24 24 11 24 10 R
      ⊢ run c (k0_part14 xM h0 oM h1 cc0_scratch0 cc0_scratch1 cc0_scratch2 cc0_scratch3 cc0_scratch4 cc0_scratch5 c v5 v)
        (fun _ => St X K c 24 24 15 24 14 R) := by
  rw [k0_part14_eq_skeleton]; unfold k0_part14_skel
  refine step_sent 11 ?_
  refine step_fwd 10 ?_
  refine step_fwd 11 ?_
  refine step_sent 12 ?_
  refine step_sent 13 ?_
  refine step_fwd 12 ?_
  refine step_fwd 13 ?_
  refine step_sent 14 ?_
  exact done BIBase.Entails.rfl

theorem part15_run (h0 : xM.IsWhole) (h1 : oM.IsWhole) (v5 v w) :
    St X K c 24 24 15 24 14 R
      ⊢ run c (k0_part15 xM h0 oM h1 cc0_scratch0 cc0_scratch1 cc0_scratch2 cc0_scratch3 cc0_scratch4 cc0_scratch5 c v5 v w)
        (fun _ => St X K c 24 24 18 24 18 R) := by
  rw [k0_part15_eq_skeleton]; unfold k0_part15_skel
  refine step_sent 15 ?_
  refine step_fwd 14 ?_
  refine step_fwd 15 ?_
  refine step_sent 16 ?_
  refine step_sent 17 ?_
  refine step_fwd 16 ?_
  refine step_fwd 17 ?_
  exact done BIBase.Entails.rfl

theorem part16_run (h0 : xM.IsWhole) (h1 : oM.IsWhole) (v5) :
    St X K c 24 24 18 24 18 R
      ⊢ run c (k0_part16 xM h0 oM h1 cc0_scratch0 cc0_scratch1 cc0_scratch2 cc0_scratch3 cc0_scratch4 cc0_scratch5 c v5)
        (fun _ => St X K c 24 24 22 24 22 R) := by
  rw [k0_part16_eq_skeleton]; unfold k0_part16_skel
  refine step_sent 18 ?_
  refine step_sent 19 ?_
  refine step_fwd 18 ?_
  refine step_fwd 19 ?_
  refine step_sent 20 ?_
  refine step_sent 21 ?_
  refine step_fwd 20 ?_
  refine step_fwd 21 ?_
  exact done BIBase.Entails.rfl

end Cert.Gather
-- ==== Proof.Body.lean ====
/-
# The body as a whole

The parts one after another.
-/
module

public import proofs.«01_k».proof.Proof.BodyLast
public import proofs.«01_k».proof.Proof.BodyWaits

@[expose] public section

set_option maxHeartbeats 2000000

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : Dv → XC F} {K : Dv × CI → ℕ} {c : Dv} {R : sProp (MT nD τ sig Unit (Elt F) ℕ UU ℕ)}

/-- One program after another. -/
theorem run_then {α β : Type} {P S : sProp 𝕄} {p : PG F β} {f : β → PG F α} {Q : α → sProp 𝕄} (hp : P ⊢ run c p (fun _ => S))
    (hf : ∀ v, S ⊢ run c (f v) Q) : P ⊢ run c (p >>= f) Q := by
  unfold run at *
  rw [wp_bind]
  exact hp.trans (wp_mono _ _ _ hf)

/-- The same, what follows being given the value read. -/
theorem run_bind {α β : Type} {P : sProp 𝕄} {p : PG F β} {f : β → PG F α} {Q : α → sProp 𝕄}
    (hp : P ⊢ run c p (fun v => run c (f v) Q)) : P ⊢ run c (p >>= f) Q := by
  unfold run at *
  rw [wp_bind]
  exact hp

/-- The whole body: from the resources at the start to the state in which every copy has been made and waited for,
    the kernel's own rows holding its own block. -/
theorem body_run (h0 : xM.IsWhole) (h1 : oM.IsWhole) :
    Beg X K c iprop(ownX X c ∗ ownO c)
      ⊢ run c (cc0_body xM h0 oM h1 cc0_scratch0 cc0_scratch1 cc0_scratch2 cc0_scratch3 cc0_scratch4 cc0_scratch5)
        (fun _ => St X K c 24 24 24 24 24 iprop(semVal (barCell c) 0 ∗ ownX X c ∗ ownG X c)) := by
  rw [cc0_body_eq_skeleton]; unfold cc0_body_skel
  refine run_bind (part1_run h0 h1 ?_)
  intro v2 v5 v8 v9 v11 v12 v13 v14 v30 v31
  refine run_then (part2_run h0 h1 _ _ _ _ _ _ _ _) fun v => ?_
  refine run_then (part3_run h0 h1 _ _ _ _ _ _ _ _) fun v => ?_
  refine run_then (part4_run h0 h1 _ _ _ _ _ _ _ _) ?_; rintro ⟨v, w⟩
  refine run_then (part5_run h0 h1 _ _ _ _ _ _ _ _ _) fun _ => ?_
  refine run_then (part6_run h0 h1 _ _ _ _ _ _ _) fun v => ?_
  refine run_then (part7_run h0 h1 _ _ _ _ _ _ _ _) ?_; rintro ⟨v, w⟩
  refine run_then (part8_run h0 h1 _ _ _ _ _ _ _ _ _ _) ?_; rintro ⟨v, w⟩
  refine run_then (part9_run h0 h1 _ _ _ _ _ _) ?_; rintro ⟨v, w⟩
  refine run_then (part10_run h0 h1 _ _ _ _ _ _) ?_; rintro ⟨v, w⟩
  refine run_then (part11_run h0 h1 _ _ _ _ _ _) ?_; rintro ⟨v, w⟩
  refine run_then (part12_run h0 h1 _ _ _) fun _ => ?_
  refine run_then (part13_run h0 h1 _) fun v => ?_
  refine run_then (part14_run h0 h1 _ _) ?_; rintro ⟨v, w⟩
  refine run_then (part15_run h0 h1 _ _ _) fun _ => ?_
  refine run_then (part16_run h0 h1 _) ?_; rintro ⟨v, w⟩
  refine step_sent 22 ?_
  refine step_sent 23 ?_
  refine step_fwd 22 ?_
  refine step_fwd 23 ?_
  exact done BIBase.Entails.rfl

end Cert.Gather
-- ==== Proof.Launch.lean ====
/-
# The launch

The kernel's one call, entered on all 32 devices at once: the body's run under the pipeline's staging, the launch's side
conditions, and the run of the whole program. It holds for any float values.
-/
module

public import proofs.«01_k».proof.Proof.Meet
public import proofs.«01_k».proof.Proof.Body
public import proofs.«01_k».proof.Proof.Gen.KernelIdeal.Launch
public import proofs.«01_k».proof.Proof.Gen.KernelIdeal.Points
public import Idealize.ShloMosaic.Lib.Pipeline.CollectiveSegs

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
open Idealize.ShloMosaic.Pipeline (Dat Cfg Window BodyObligation cellOf)

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-- Every device's block of `x`, as staged. -/
def xs (c : Dv) : XC F := (win0_0.blk (0 : Fin 1)).view.read (Elt F) ((s₀ m ρ).mem ((c : Thread nD τ).loc main_arg0))

/-- What a device enters its kernel with. -/
def start (c : Dv) : sProp 𝕄 := iprop(∃ K, ready (xs m ρ) K c)

def dats (_ : Fin 1) (c : Dv) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => gath (xs m ρ) c
  Φ t := match t with
    | ⟨0, _⟩ => start m ρ c
    | ⟨_ + 1, _⟩ => zeros c
  q _ := fullShare
  owed t := match t with
    | ⟨0, _⟩ => o₀ c
    | ⟨_ + 1, _⟩ => 0

theorem bigSep_W (Φ : Fin cfg0.W → sProp 𝕄) : bigSep Finset.univ Φ = iprop(Φ (0 : Fin 2) ∗ Φ (1 : Fin 2)) := bigSep_W0 Φ

/-- A staged buffer held whole, at contents equal to given ones. -/
abbrev stg (c : Dv) (b : Ref sig .tc) (Y : b.ty.Contents (Elt F)) : sProp 𝕄 :=
  iprop(∃ f : Buf (Elt F) ((c : Thread nD τ).loc b), ⌜f = Y⌝ ∗ (((c : Thread nD τ).loc b) ↦{fullShare} f))

def bodyPre (c : Dv) : sProp 𝕄 :=
  iprop(start m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dv) : sProp 𝕄 :=
  iprop(zeros c ∗ (dats m ρ 0 c).owesAt () t0_0.succ ∗ stg c cc0_stg0_0 (xs m ρ c) ∗ stg c cc0_stg1_0 (gath (xs m ρ) c))

theorem owes_start (c : Dv) : (dats m ρ 0 c).owesAt () t0_0.castSucc ⊢ (iprop(∃ W, owes (c : Thread nD τ) (o₀ c) W) : sProp 𝕄) := by
  unfold Dat.owesAt Pipeline.owesWithin
  rw [show (dats m ρ 0 c).owed t0_0.castSucc = o₀ c from rfl]
  iintro ⟨%W, %hW, HO⟩
  iexists W; iexact HO

theorem owes_end (c : Dv) : (iprop(∃ W, owes (c : Thread nD τ) 0 W) : sProp 𝕄) ⊢ (dats m ρ 0 c).owesAt () t0_0.succ := by
  unfold Dat.owesAt Pipeline.owesWithin
  rw [show (dats m ρ 0 c).owed t0_0.succ = 0 from rfl]
  iintro ⟨%W, HO⟩
  iexists W
  isplitr; · ipureintro; exact fun _ _ => Or.inl trivial
  iexact HO

/-- The body, from its staged buffers to its staged buffers. -/
theorem sound_body (c : Dv) (h0 : xM.IsWhole) (h1 : oM.IsWhole) :
    bodyPre m ρ c ⊢ run c (cc0_body xM h0 oM h1 cc0_scratch0 cc0_scratch1 cc0_scratch2 cc0_scratch3 cc0_scratch4 cc0_scratch5)
      (fun _ => bodyPost m ρ c) := by
  have hx : ∀ d g, g = (dats m ρ 0 c).before (0 : Fin 2) t0_0 d → g = xs m ρ c := fun d g hg => by
    rw [hg]; unfold Dat.before; rw [if_pos (fetch0_0 t0_0)]; rfl
  have hend : ∀ K, iprop(St (xs m ρ) K c 24 24 24 24 24 iprop(semVal (barCell c) 0 ∗ ownX (xs m ρ) c ∗ ownG (xs m ρ) c) ∗ xOther (xs m ρ) c)
      ⊢ bodyPost m ρ c := fun K => by
    refine (end_elim (xs m ρ) K c).trans ?_
    unfold bodyPost
    iintro ⟨Hz, HO, Hx, Ho⟩
    isplitl [Hz]; · iexact Hz
    isplitl [HO]; · iapply (owes_end m ρ c); iexact HO
    isplitl [Hx]
    · iexists _; isplitr; · (ipureintro; rfl)
      iexact Hx
    iexists _; isplitr; · (ipureintro; rfl)
    iexact Ho
  unfold bodyPre start
  iintro ⟨⟨%K, HS⟩, HO, ⟨%d0, %g0, %hg0, Hx⟩, ⟨%d1, %g1, %hg1, Ho⟩⟩
  have e := hx d0 g0 hg0
  subst e
  ihave HO := (owes_start m ρ c) $$ HO
  ihave H := (beg_intro (xs m ρ) K c g1) $$ [HS HO Hx Ho]
  · isplitl [HS]; · iexact HS
    isplitl [HO]; · iexact HO
    isplitl [Hx]; · iexact Hx
    iexact Ho
  icases H with ⟨HB, HX⟩
  iapply wp_wand_r
  isplitl [HB]
  · iapply (body_run (X := xs m ρ) (K := K) (c := c) h0 h1); iexact HB
  iintro %a HQ
  iapply (hend K)
  isplitl [HQ]; · iexact HQ
  iexact HX

set_option maxRecDepth 4000 in
/-- The library's body obligation on device `c`. -/
theorem body_obligation (c : Dv) : BodyObligation (dats (F := F) m ρ 0 c) (defs₀ (F := F)) 𝒱₀ () Set.univ := fun t => by
  rw [fin_N0 t]
  rw [bigSep_W, bigSep_W]
  simp only [owns_whole_eq]
  exact sound_body m ρ c (Memref.isWhole_whole _) (Memref.isWhole_whole _)

/-! ## The launch's side conditions -/

theorem ownSemFacts : Pipeline.OwnSemFacts cfg0.spec osem := by decide +kernel

theorem share_eq (c : Dv) (w : Fin cfg0.W) : (dats m ρ 0 c).share w = fullShare := by unfold Dat.share; split <;> rfl

def u₀ : UU := (initOf (Pipeline.cells cfgs cellOf_inj) (Pipeline.launchToks cfgs cellOf_inj), initOf allCells allToks)

theorem start_intro (c : Dv) :
    iprop(Pipeline.unscopedRestP Pipeline.Prefetch.none cfg0.spec c (fun b => m ((c : Thread nD τ).loc b)) ∗ levAts L lv
        ∗ Pipeline.launchCred o₀ c ∗ prngReg c (ρ c) ∗ G' (xs m ρ) c)
      ⊢ |={Set.univ}=> iprop(start m ρ c ∗ emp) := by
  iintro ⟨-, Hlev, Hcr, -, HG⟩
  ihave Hc := (creds (F := F) c) $$ Hcr
  icases Hc with ⟨Hb, H1, H3⟩
  unfold start G' ready
  icases HG with ⟨%K, HK, HL⟩
  imodintro
  isplitl
  · iexists K
    isplitl [HK]; · iexact HK
    isplitl [HL]; · iexact HL
    isplitl [Hb]; · iexact Hb
    isplitl [H1]; · iexact H1
    isplitl [H3]; · iexact H3
    iexact Hlev
  · iempintro

theorem phi0_intro (c : Dv) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -, -⟩
  iexact Hs

theorem phi1_exit (c : Dv) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = zeros c from rfl, scopedRest0_eq, ownSems0_eq, unscopedSems0_eq]
  unfold zeros
  iintro ⟨Hk, Hb⟩
  isplitl [Hb]; · iexact Hb
  isplitl [Hk]; · iexact Hk
  iempintro

theorem waits (c : Dv) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) (by
      rcases t with ⟨_ | _, ht⟩
      · exact Or.inl rfl
      · exact Or.inr rfl)

/-! ## The run -/

/-- What a window's array holds after the run. -/
def finalA (c : Dv) (w : Fin cfg0.W) : Buf (Elt F) ((cfg0.win w).arr.view.loc (c : Thread nD τ)) := (dats m ρ 0 c).arrAt w cfg0.N

def QC : PUnit × MemSt nD τ sig (Elt F) → Prop := fun r =>
  ∀ c : Dv, ∀ w : Fin cfg0.W, r.2.mem ((cfg0.win w).arr.view.loc (c : Thread nD τ)) = finalA m ρ c w

set_option maxRecDepth 8000 in
/-- From any memory with zero semaphores, over any float values: every weakly fair execution terminates without fault, with the
    windows' arrays at the computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := o₀) (howed₀ := fun _ => rfl) (howedN := fun _ => rfl)
    (L := L) (lv := lv) (hL := L_of_ne) (hwaits := waits m ρ)
    (G := G (xs m ρ)) (G' := G' (xs m ρ)) (u₀ := u₀)
    (hu₀ := by
      unfold u₀
      iintro Hu
      ihave H := (ownU_pair _ _) $$ Hu
      icases H with ⟨HP, HX⟩
      imod (fund_all (xs m ρ)) $$ HX with HG
      imodintro
      isplitl [HP] <;> iassumption)
    (hglob := glob (xs m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The array of `x` holds after the run what it held. -/
theorem finalA_x (c : Dv) : finalA m ρ c (0 : Fin 2) = m ((c : Thread nD τ).loc main_arg0) :=
  (dats (F := F) m ρ 0 c).arrAt_in (0 : Fin 2) rfl _

end Cert.Gather
-- ==== Proof.Values.lean ====
/-
# The values

What the run leaves: a device's block is its argument as launched, its result array is the gathered result, and the
gathered result of the blocks of one array is that array.
-/
module

public import proofs.«01_k».proof.Proof.Launch
public import Idealize.ShloMosaic.Lib.Pipeline.Value
public import Idealize.ShloMosaic.Lib.Layout

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The one block of the first window is its whole array. -/
theorem emb_x (j : S1024x512.Idx) : (win0_0.blk (0 : Fin 1)).view.emb j = j := by
  have e : win0_0.index (0 : Fin 1) (0 : Fin 2) = 0 ∧ win0_0.index (0 : Fin 1) (1 : Fin 2) = 0 := by decide +kernel
  funext a; apply Fin.ext
  match a with
  | ⟨0, _⟩ => show win0_0.index (0 : Fin 1) (0 : Fin 2) * 1024 + 1 * (j 0).val = (j 0).val; omega
  | ⟨1, _⟩ => show win0_0.index (0 : Fin 1) (1 : Fin 2) * 512 + 1 * (j 1).val = (j 1).val; omega

/-- The one block of the second window is its whole array. -/
theorem emb_o (t : Fin cfg0.N) (j : S4096x512.Idx) : ((cfg0.win 1).blk t).view.emb j = j := by
  obtain rfl := fin_N0 t
  have e : win0_1.index t0_0 (0 : Fin 2) = 0 ∧ win0_1.index t0_0 (1 : Fin 2) = 0 := by decide +kernel
  funext a; apply Fin.ext
  match a with
  | ⟨0, _⟩ => show win0_1.index t0_0 (0 : Fin 2) * 4096 + 1 * (j 0).val = (j 0).val; omega
  | ⟨1, _⟩ => show win0_1.index t0_0 (1 : Fin 2) * 512 + 1 * (j 1).val = (j 1).val; omega

/-- A device's block is its argument as launched. -/
theorem xs_eq (c : Dv) : xs m ρ c = m ((c : Thread nD τ).loc main_arg0) := by
  funext j
  show m ((c : Thread nD τ).loc main_arg0) ((win0_0.blk (0 : Fin 1)).view.emb j) = _
  rw [emb_x]

/-- What is written back is the gathered result. -/
theorem flushed_o (c : Dv) (t : Fin cfg0.N) :
    (dats m ρ 0 c).flushed 1 t = ((cfg0.win 1).blk t).view.read (Elt F) (gath (xs m ρ) c) := by
  funext j
  show gath (xs m ρ) c j = gath (xs m ρ) c (((cfg0.win 1).blk t).view.emb j)
  rw [emb_o]

/-- Every element of the result is written back. -/
theorem cover_o (i : S4096x512.Idx) : ∃ t : Fin cfg0.N, (cfg0.win 1).flush t = true ∧ i ∈ ((cfg0.win 1).blk t).view.set :=
  ⟨t0_0, flush0_1 _, by have h := ((cfg0.win 1).blk t0_0).view.emb_mem_set i; rwa [emb_o] at h⟩

/-- The result array of a device ends at the gathered result. -/
theorem finalA_o (c : Dv) : finalA m ρ c (1 : Fin 2) = gath (xs m ρ) c :=
  (dats m ρ 0 c).arrAt_eq_of_cover 1 (gath (xs m ρ) c) (fun t _ => flushed_o m ρ c t) cover_o

/-- A row's source device stands at the row's block along the line. -/
theorem yOf_src (c : Dv) {r : ℕ} (hr : r < 4096) : yOf (srcDev c r) = r / 1024 := by
  unfold srcDev
  split
  · rename_i h; exact h.symm
  · simp only [yOf, zOf]; omega

omit [FloatOps F] in
/-- Where each device holds its block of one array, the gathered result is that array on every device. -/
theorem gath_block (X : Dv → XC F) (v : OC F)
    (h : ∀ c, X c = Layout.blockN ⟨2, ![1024, 512]⟩ ⟨2, ![4096, 512]⟩ (Layout.meshBlock [2, 4, 4] ![[1], []] c) v) (c : Dv) :
    gath X c = v := by
  funext i
  have hi : (i 0).val < 4096 := (i 0).isLt
  have hb : ∀ d : Dv, Layout.meshLin [2, 4, 4] d.val [1] = yOf d := by decide +kernel
  have hy := yOf_src c hi
  show X (srcDev c (i 0).val) (rowIx i) = v i
  rw [h, Layout.blockN_apply]
  refine congrArg v (funext fun a => Fin.ext ?_)
  match a with
  | ⟨0, _⟩ =>
    show Layout.meshLin [2, 4, 4] (srcDev c (i 0).val).val [1] * 1024 + (i 0).val % 1024 = (i 0).val
    rw [hb, hy]; omega
  | ⟨1, _⟩ => show 0 * 512 + (i 1).val = (i 1).val; omega

end Cert.Gather
-- ==== Proof.Reference.lean ====
/- The reference program does nothing: its result is its argument. Here is its run, at any float
   values: it ends with the argument as launched and with every counter at zero. -/
module

public import proofs.«01_k».proof.Proof.Gen.ReferenceIdeal
public import Idealize.ShloMosaic.Lib.StableHlo.Run
public import Idealize.ShloMosaic.Lib.Quiescent

@[expose] public section

noncomputable section

namespace Cert.Gather.Reference

open Cert.ReferenceIdeal Idealize.ShloMosaic Idealize.ShloMosaic.TcCoe Idealize.SL.Sem

variable {F : FTy → Type} [FloatOps F]

/-- Every run of the reference terminates, with the argument as it was and every counter at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0))
        ∧ r.2.sem = fun _ => 0 :=
  (θ_run defs _ _).mono
    (fun r h => ⟨fun c => h c main_arg0, sem_eq_zero_of_no_sems rfl r.2⟩)
    (StableHlo.run_seq (by decide) (by decide) defs main (fun _ => []) (fun _ => rfl) (fun _ => trivial) m ρ
      (fun _ op h => absurd h List.not_mem_nil))

end Cert.Gather.Reference

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Values
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The kernel's text runs, at any float values, its argument unchanged and every counter back at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD, r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0 :=
  (θ_run Cert.KernelIdeal.defs _ _).mono (fun _ h => ⟨fun c => (h.1 c (0 : Fin 2)).trans (Cert.Gather.finalA_x m ρ c), h.2⟩)
    (Cert.Gather.run_main m ρ)

/-- The two printed programs have the same kernel body behind their one label. -/
theorem bodies_eq {F : FTy → Type} [FloatOps F] : Cert.Kernel.defs₀ (F := F) = Cert.KernelIdeal.defs₀ (F := F) := by
  unfold Cert.Kernel.defs₀ Cert.KernelIdeal.defs₀
  congr 1
  funext ℓ x
  match ℓ, x with
  | 0, (t, s) => rfl

/-- So their whole tables of bodies are the same. -/
theorem defs_eq {F : FTy → Type} [FloatOps F] : Cert.Kernel.defs (F := F) = Cert.KernelIdeal.defs (F := F) :=
  congrArg (Pipeline.defs Cert.KernelIdeal.pcfgs) bodies_eq

/-- The kernel runs at its bit patterns, its argument unchanged and every counter back at zero. -/
theorem frame_kernel : Cert.quiescent_Kernel := fun m ρ _ => by
  have h := frame_any (F := Bits) m ρ
  rw [← defs_eq] at h
  exact h

/-- The same text runs at the ideal values. -/
theorem frame_kernelIdeal : Cert.quiescent_KernelIdeal := fun m ρ _ => frame_any (F := Ideal) m ρ

/-- The reference runs. -/
theorem frame_reference : Cert.quiescent_ReferenceIdeal := fun m ρ _ => Cert.Gather.Reference.run m ρ

/-- Every device's result is the whole array of which each device was given its block. -/
theorem algebraic : Cert.algebraic_KernelIdeal_ReferenceIdeal := fun m ρ m' ρ' _ hin =>
  ⟨_, (θ_run Cert.KernelIdeal.defs _ _).mono
      (fun _ h c => ⟨(h.1 c (1 : Fin 2)).trans ((Cert.Gather.finalA_o m ρ c).trans
          (Cert.Gather.gath_block _ _ (fun d => (Cert.Gather.xs_eq m ρ d).trans (hin d)) c)),
        (h.1 c (0 : Fin 2)).trans (Cert.Gather.finalA_x m ρ c)⟩)
      (Cert.Gather.run_main (F := Ideal) m ρ),
    (θ_run Cert.ReferenceIdeal.defs _ _).mono (fun _ h => ⟨h.1 0, h.1 0⟩) (Cert.Gather.Reference.run m' ρ')⟩

/-- All the claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
